-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x64 : Shape := ⟨2, ![2048, 64]⟩
abbrev S_ : Shape := ⟨0, ![]⟩

class Facts : Prop where
  bcast_S_S4x4096x2048 : S_.BroadcastsInDim S4x4096x2048 (![] : Fin 0 → Fin S4x4096x2048.rank)
  bcast_S_S2048x64 : S_.BroadcastsInDim S2048x64 (![] : Fin 0 → Fin S2048x64.rank)

variable [Facts]

def fn {F : FTy → Type} [FloatOps F] (main_arg0 : FVec F S4x4096x2048 .f32) (main_arg1 : FVec F S2048x64 .f32) : IVec S4x4096x2048 1 × IVec S2048x64 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S2048x64 .f32 := Host.absf main_arg1
  let main_cst_0 : FVec F S_ .f32 := constant S_ .f32 0x7F800000#32
  let main_v4 : FVec F S2048x64 .f32 := broadcastInDim S2048x64 ![] bcast_S_S2048x64 main_cst_0
  let main_v5 : IVec S2048x64 1 := cmpf .olt main_v3 main_v4
  (main_v2, main_v5)
-- ==== Kernel.lean ====
abbrev S4x4096x2048 : Shape := ⟨3, ![4, 4096, 2048]⟩
abbrev S2048x64 : Shape := ⟨2, ![2048, 64]⟩
abbrev S16384x2048 : Shape := ⟨2, ![16384, 2048]⟩
abbrev S16x1x1024 : Shape := ⟨3, ![16, 1, 1024]⟩
abbrev S64x1 : Shape := ⟨2, ![64, 1]⟩
abbrev S1x1 : Shape := ⟨2, ![1, 1]⟩
abbrev S1024x1024 : Shape := ⟨2, ![1024, 1024]⟩
abbrev S1024x64 : Shape := ⟨2, ![1024, 64]⟩
abbrev S1x1x1024 : Shape := ⟨3, ![1, 1, 1024]⟩
abbrev S64x1024 : Shape := ⟨2, ![64, 1024]⟩
abbrev S1x1024 : Shape := ⟨2, ![1, 1024]⟩
abbrev S1024 : Shape := ⟨1, ![1024]⟩
abbrev S64 : Shape := ⟨1, ![64]⟩
abbrev S1 : Shape := ⟨1, ![1]⟩
abbrev S16384 : Shape := ⟨1, ![16384]⟩
abbrev S16384x1 : Shape := ⟨2, ![16384, 1]⟩
abbrev S16384x2 : Shape := ⟨2, ![16384, 2]⟩
abbrev S4x4096x2 : Shape := ⟨3, ![4, 4096, 2]⟩
abbrev S_ : Shape := ⟨0, ![]⟩

abbrev nBuf : Space → Nat
  | .hbm => 43
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2048x64, .f32⟩
  | .hbm, ⟨2, _⟩ => ⟨S16384x2048, .f32⟩
  | .hbm, ⟨3, _⟩ => ⟨S16x1x1024, .i32⟩
  | .hbm, ⟨4, _⟩ => ⟨S16x1x1024, .i32⟩
  | .hbm, ⟨5, _⟩ => ⟨S16x1x1024, .f32⟩
  | .hbm, ⟨6, _⟩ => ⟨S16x1x1024, .f32⟩
  | .hbm, ⟨7, _⟩ => ⟨S64x1, .f32⟩
  | .hbm, ⟨8, _⟩ => ⟨S64x1, .f32⟩
  | .hbm, ⟨9, _⟩ => ⟨S1x1, .f32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1, .i32⟩
  | .hbm, ⟨14, _⟩ => ⟨S16384x2, .i32⟩
  | .hbm, ⟨15, _⟩ => ⟨S4x4096x2, .i32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x1, .f32⟩
  | .hbm, ⟨20, _⟩ => ⟨S16384x2, .f32⟩
  | .hbm, ⟨21, _⟩ => ⟨S4x4096x2, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1x1x1024, .i32⟩
  | .local _ .vmem, ⟨5, _⟩ => ⟨S1x1x1024, .i32⟩
  | .local _ .vmem, ⟨6, _⟩ => ⟨S1x1x1024, .i32⟩
  | .local _ .vmem, ⟨7, _⟩ => ⟨S1x1x1024, .i32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S64x1, .f32⟩
  | .local _ .vmem, ⟨13, _⟩ => ⟨S64x1, .f32⟩
  | .local _ .vmem, ⟨14, _⟩ => ⟨S1x1, .f32⟩
  | .local _ .vmem, ⟨15, _⟩ => ⟨S1024x64, .f32⟩
  | .local _ .vmem, ⟨16, _⟩ => ⟨S64x1024, .f32⟩
  | .local _ .vmem, ⟨17, _⟩ => ⟨S64x1024, .f32⟩
  | .local _ .vmem, ⟨18, _⟩ => ⟨S1x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond6 (i : grid0.Coords) : BitVec 1 :=
  let arg0 : BitVec 32 := BitVec.ofNat 32 (i 0).val
  let c15_i32 : BitVec 32 := 15#32
  let v77 : BitVec 1 := Scalar.cmpi .eq arg0 c15_i32
  let v78 : BitVec 32 := Scalar.extui v77
  let c0_i32_35 : BitVec 32 := 0#32
  let v79 : BitVec 1 := Scalar.cmpi .ne v78 c0_i32_35
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4x4096x2048 : Shape := ⟨3, ![4, 4096, 2048]⟩
abbrev S2048x64 : Shape := ⟨2, ![2048, 64]⟩
abbrev S4x4096x64 : Shape := ⟨3, ![4, 4096, 64]⟩
abbrev S4x4096x2 : Shape := ⟨3, ![4, 4096, 2]⟩
abbrev S_ : Shape := ⟨0, ![]⟩
abbrev S4x4096 : Shape := ⟨2, ![4, 4096]⟩
abbrev S4x4096x1 : Shape := ⟨3, ![4, 4096, 1]⟩
abbrev S4x4096x2x1 : Shape := ⟨4, ![4, 4096, 2, 1]⟩
abbrev S1x1x1x64 : Shape := ⟨4, ![1, 1, 1, 64]⟩
abbrev S4x4096x2x64 : Shape := ⟨4, ![4, 4096, 2, 64]⟩
abbrev S64 : Shape := ⟨1, ![64]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x64, .f32⟩
  | .hbm, ⟨2, _⟩ => ⟨S4x4096x64, .f32⟩
  | .hbm, ⟨3, _⟩ => ⟨S4x4096x2, .f32⟩
  | .hbm, ⟨4, _⟩ => ⟨S4x4096x2, .i32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x2, .f32⟩
  | .hbm, ⟨12, _⟩ => ⟨S4x4096x2, .f32⟩
  | .hbm, ⟨13, _⟩ => ⟨S4x4096x2, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x2, .f32⟩
  | .hbm, ⟨18, _⟩ => ⟨S4x4096x2, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x64, .f32⟩
  | .hbm, ⟨32, _⟩ => ⟨S4x4096x64, .f32⟩
  | .hbm, ⟨33, _⟩ => ⟨S4x4096x2x1, .i32⟩
  | .hbm, ⟨34, _⟩ => ⟨S1x1x1x64, .i32⟩
  | .hbm, ⟨35, _⟩ => ⟨S4x4096x2x64, .i32⟩
  | .hbm, ⟨36, _⟩ => ⟨S4x4096x2x64, .i32⟩
  | .hbm, ⟨37, _⟩ => ⟨S4x4096x2x64, .i1⟩
  | .hbm, ⟨38, _⟩ => ⟨S4x4096x2x64, .f32⟩
  | .hbm, ⟨39, _⟩ => ⟨S_, .f32⟩
  | .hbm, ⟨40, _⟩ => ⟨S4x4096x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4x4096x64, .f32⟩
  | .hbm, ⟨57, _⟩ => ⟨S_, .f32⟩
  | .hbm, ⟨58, _⟩ => ⟨S4x4096, .f32⟩
  | .hbm, ⟨59, _⟩ => ⟨S4x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_cst_13 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_cst_15 : Ref sig .tc := ⟨.hbm, 65, rfl⟩
abbrev main_v40 : Ref sig .tc := ⟨.hbm, 66, rfl⟩
abbrev main_cst_16 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Proof.KernelIdeal.Conds.lean ====
/- The branch conditions of the idealised kernel's body over the grid's points, where its output windows are idle, and the values one point computes. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions of the body, over the points

Point `t` is block `t / 2`, half `t % 2` of the contraction. -/

/-- The first half of the contraction: the partial product is stored. -/
abbrev condFst (i : grid0.Coords) : Prop := (Scalar.cmpi .ne (Scalar.extui (Scalar.cmpi .eq (BitVec.ofNat 32 (i 1).val) 0#32)) 0#32) = 1#1
/-- A later half: the partial product is added. -/
abbrev condSnd (i : grid0.Coords) : Prop := (Scalar.cmpi .ne (Scalar.extui (Scalar.cmpi .sgt (BitVec.ofNat 32 (i 1).val) 0#32)) 0#32) = 1#1
/-- The last half: the logits of the block are complete and get routed. -/
abbrev condPost (i : grid0.Coords) : Prop := k0_cond3 i = 1#1
/-- The first block: the accumulators are set. -/
abbrev condInit (i : grid0.Coords) : Prop := (Scalar.cmpi .ne (Scalar.extui (Scalar.cmpi .eq (BitVec.ofNat 32 (i 0).val) 0#32)) 0#32) = 1#1
/-- A later block: the accumulators are added to. -/
abbrev condAcc (i : grid0.Coords) : Prop := (Scalar.cmpi .ne (Scalar.extui (Scalar.cmpi .sgt (BitVec.ofNat 32 (i 0).val) 0#32)) 0#32) = 1#1
/-- The last block: the accumulators are summed over the lanes. -/
abbrev condLast (i : grid0.Coords) : Prop := k0_cond6 i = 1#1

theorem condFst_iff : ∀ t : Fin cfg0.N, condFst (grid0.coords t) ↔ t.val % 2 = 0 :=
  (by decide +kernel : ∀ t : Fin grid0.N, condFst (grid0.coords t) ↔ t.val % 2 = 0)
theorem condSnd_iff : ∀ t : Fin cfg0.N, condSnd (grid0.coords t) ↔ t.val % 2 = 1 :=
  (by decide +kernel : ∀ t : Fin grid0.N, condSnd (grid0.coords t) ↔ t.val % 2 = 1)
theorem condPost_iff : ∀ t : Fin cfg0.N, condPost (grid0.coords t) ↔ t.val % 2 = 1 :=
  (by decide +kernel : ∀ t : Fin grid0.N, condPost (grid0.coords t) ↔ t.val % 2 = 1)
theorem condInit_iff : ∀ t : Fin cfg0.N, condInit (grid0.coords t) ↔ t.val / 2 = 0 :=
  (by decide +kernel : ∀ t : Fin grid0.N, condInit (grid0.coords t) ↔ t.val / 2 = 0)
theorem condAcc_iff : ∀ t : Fin cfg0.N, condAcc (grid0.coords t) ↔ 0 < t.val / 2 :=
  (by decide +kernel : ∀ t : Fin grid0.N, condAcc (grid0.coords t) ↔ 0 < t.val / 2)
theorem condLast_iff : ∀ t : Fin cfg0.N, condLast (grid0.coords t) ↔ t.val / 2 = 15 :=
  (by decide +kernel : ∀ t : Fin grid0.N, condLast (grid0.coords t) ↔ t.val / 2 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, t.val % 2 = 1 → cfg0.idle 2 (grid0.coords t) = false := by decide +kernel
theorem idle2 : ∀ t : Fin cfg0.N, t.val % 2 = 0 → cfg0.idle 2 (grid0.coords t) = true := by decide +kernel
theorem noFlush2 : ∀ t : Fin cfg0.N, t.val % 2 = 0 → (cfg0.win 2).flush t = false := by decide +kernel
theorem live3 : ∀ t : Fin cfg0.N, t.val % 2 = 1 → cfg0.idle 3 (grid0.coords t) = false := by decide +kernel
theorem idle3 : ∀ t : Fin cfg0.N, t.val % 2 = 0 → cfg0.idle 3 (grid0.coords t) = true := by decide +kernel
theorem noFlush3 : ∀ t : Fin cfg0.N, t.val % 2 = 0 → (cfg0.win 3).flush t = false := by decide +kernel
theorem live4 : ∀ t : Fin cfg0.N, t.val % 2 = 1 → cfg0.idle 4 (grid0.coords t) = false := by decide +kernel
theorem idle4 : ∀ t : Fin cfg0.N, t.val % 2 = 0 → cfg0.idle 4 (grid0.coords t) = true := by decide +kernel
theorem noFlush4 : ∀ t : Fin cfg0.N, t.val % 2 = 0 → (cfg0.win 4).flush t = false := by decide +kernel
theorem live5 : ∀ t : Fin cfg0.N, t.val % 2 = 1 → cfg0.idle 5 (grid0.coords t) = false := by decide +kernel
theorem idle5 : ∀ t : Fin cfg0.N, t.val % 2 = 0 → cfg0.idle 5 (grid0.coords t) = true := by decide +kernel
theorem noFlush5 : ∀ t : Fin cfg0.N, t.val % 2 = 0 → (cfg0.win 5).flush t = false := by decide +kernel
theorem live6 : ∀ t : Fin cfg0.N, t.val = 31 → cfg0.idle 6 (grid0.coords t) = false := by decide +kernel
theorem idle6 : ∀ t : Fin cfg0.N, t.val ≠ 31 → cfg0.idle 6 (grid0.coords t) = true := by decide +kernel
theorem noFlush6 : ∀ t : Fin cfg0.N, t.val ≠ 31 → (cfg0.win 6).flush t = false := by decide +kernel
theorem live7 : ∀ t : Fin cfg0.N, t.val = 31 → cfg0.idle 7 (grid0.coords t) = false := by decide +kernel
theorem idle7 : ∀ t : Fin cfg0.N, t.val ≠ 31 → cfg0.idle 7 (grid0.coords t) = true := by decide +kernel
theorem noFlush7 : ∀ t : Fin cfg0.N, t.val ≠ 31 → (cfg0.win 7).flush t = false := by decide +kernel
theorem live8 : ∀ t : Fin cfg0.N, t.val = 31 → cfg0.idle 8 (grid0.coords t) = false := by decide +kernel
theorem idle8 : ∀ t : Fin cfg0.N, t.val ≠ 31 → cfg0.idle 8 (grid0.coords t) = true := by decide +kernel
theorem noFlush8 : ∀ t : Fin cfg0.N, t.val ≠ 31 → (cfg0.win 8).flush t = false := by decide +kernel

/-! ## What one point computes, from the logits block `l` it has read -/

/-- The sum of the router probabilities over the blocks so far, before this block and after it. -/
def psInit (l : Vec F S1024x64 .f32) : Vec F S64x1024 .f32 := k0_pay9 (k0_pay18 l) (k0_pay19 l)
def psNext (l : Vec F S1024x64 .f32) (a : Vec F S64x1024 .f32) : Vec F S64x1024 .f32 := k0_pay12 (k0_pay18 l) (k0_pay19 l) a
/-- The expert numbers, one per row. -/
def rowNo : IVec S64x1024 32 := iota .tc S64x1024 32 [0] iota_S64x1024_d0_w32
/-- The count of the chosen experts. -/
def cntInit (l : Vec F S1024x64 .f32) : Vec F S64x1024 .f32 := k0_pay10 (F := F) rowNo (k0_pay20 l) (k0_pay23 l)
def cntNext (l : Vec F S1024x64 .f32) (a : Vec F S64x1024 .f32) : Vec F S64x1024 .f32 := k0_pay13 rowNo (k0_pay20 l) (k0_pay23 l) a
/-- The sum of the log partition functions. -/
def lseInit (l : Vec F S1024x64 .f32) : Vec F S1x1024 .f32 := k0_pay11 (k0_pay18 l) (k0_pay19 l)
def lseNext (l : Vec F S1024x64 .f32) (a : Vec F S1x1024 .f32) : Vec F S1x1024 .f32 := k0_pay14 (k0_pay18 l) (k0_pay19 l) a

/-! ## Whole loads: of contents named by what they read, and after a whole store -/

theorem load_1024x1024 (g : Memref sig .tc .vmem S1024x1024 .f32) (hg : g.IsWhole) (x : Vec F S1024x1024 .f32) :
    View.readAt (Elt F) g.view (Rect.unit (s := S1024x1024) ![0, 0] ![1024, 1024] inb_S1024x1024_S1024x1024_0_0).toLoadRect (hg.unread x) = x :=
  (View.readAt_full (s := S1024x1024) g.view _ _).trans (hg.read_unread x)
theorem reload_1024x1024 (g : Memref sig .tc .vmem S1024x1024 .f32) (x : Vec F S1024x1024 .f32) (L : List (View.Piece (Elt F) S1024x1024 .f32)) :
    View.readCov g.view (⟨Rect.unit (s := S1024x1024) ![0, 0] ![1024, 1024] inb_S1024x1024_S1024x1024_0_0, x⟩ :: L) (Rect.unit (s := S1024x1024) ![0, 0] ![1024, 1024] inb_S1024x1024_S1024x1024_0_0).toLoadRect = x :=
  View.readCov_full (s := S1024x1024) g.view _ _ x L
theorem load_1024x64 (g : Memref sig .tc .vmem S1024x64 .f32) (hg : g.IsWhole) (x : Vec F S1024x64 .f32) :
    View.readAt (Elt F) g.view (Rect.unit (s := S1024x64) ![0, 0] ![1024, 64] inb_S1024x64_S1024x64_0_0).toLoadRect (hg.unread x) = x :=
  (View.readAt_full (s := S1024x64) g.view _ _).trans (hg.read_unread x)
theorem reload_1024x64 (g : Memref sig .tc .vmem S1024x64 .f32) (x : Vec F S1024x64 .f32) (L : List (View.Piece (Elt F) S1024x64 .f32)) :
    View.readCov g.view (⟨Rect.unit (s := S1024x64) ![0, 0] ![1024, 64] inb_S1024x64_S1024x64_0_0, x⟩ :: L) (Rect.unit (s := S1024x64) ![0, 0] ![1024, 64] inb_S1024x64_S1024x64_0_0).toLoadRect = x :=
  View.readCov_full (s := S1024x64) g.view _ _ x L
theorem load_64x1024 (g : Memref sig .tc .vmem S64x1024 .f32) (hg : g.IsWhole) (x : Vec F S64x1024 .f32) :
    View.readAt (Elt F) g.view (Rect.unit (s := S64x1024) ![0, 0] ![64, 1024] inb_S64x1024_S64x1024_0_0).toLoadRect (hg.unread x) = x :=
  (View.readAt_full (s := S64x1024) g.view _ _).trans (hg.read_unread x)
theorem reload_64x1024 (g : Memref sig .tc .vmem S64x1024 .f32) (x : Vec F S64x1024 .f32) (L : List (View.Piece (Elt F) S64x1024 .f32)) :
    View.readCov g.view (⟨Rect.unit (s := S64x1024) ![0, 0] ![64, 1024] inb_S64x1024_S64x1024_0_0, x⟩ :: L) (Rect.unit (s := S64x1024) ![0, 0] ![64, 1024] inb_S64x1024_S64x1024_0_0).toLoadRect = x :=
  View.readCov_full (s := S64x1024) g.view _ _ x L
theorem load_1x1024 (g : Memref sig .tc .vmem S1x1024 .f32) (hg : g.IsWhole) (x : Vec F S1x1024 .f32) :
    View.readAt (Elt F) g.view (Rect.unit (s := S1x1024) ![0, 0] ![1, 1024] inb_S1x1024_S1x1024_0_0).toLoadRect (hg.unread x) = x :=
  (View.readAt_full (s := S1x1024) g.view _ _).trans (hg.read_unread x)
theorem reload_1x1024 (g : Memref sig .tc .vmem S1x1024 .f32) (x : Vec F S1x1024 .f32) (L : List (View.Piece (Elt F) S1x1024 .f32)) :
    View.readCov g.view (⟨Rect.unit (s := S1x1024) ![0, 0] ![1, 1024] inb_S1x1024_S1x1024_0_0, x⟩ :: L) (Rect.unit (s := S1x1024) ![0, 0] ![1, 1024] inb_S1x1024_S1x1024_0_0).toLoadRect = x :=
  View.readCov_full (s := S1x1024) g.view _ _ x L

end Cert.KernelIdeal.Router

end
-- ==== Proof.KernelIdeal.RunA.lean ====
/- A point of the first half: the partial product is stored. Of the idealised kernel. -/
module

public import proofs.«01_k».proof.Proof.KernelIdeal.Conds

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A point of the first half: the partial product is stored. -/
theorem runA (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S1x1 .f32) (harg10 : arg10.IsWhole) (arg11 : Memref sig .tc .vmem S1024x64 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S1x1024 .f32) (harg14 : arg14.IsWhole)
    (hc0 : condFst i) (hc1 : ¬condSnd i) (hc2 : ¬condPost i)
    (x : Vec F S1024x1024 .f32) (w : Vec F S1024x64 .f32) (E : Set ℕ) (K : PUnit → sProp 𝕄) :
    iprop(owns (c : Thread nD τ) arg2 fullShare x ∗ owns (c : Thread nD τ) arg3 fullShare w ∗ (∃ d, owns (c : Thread nD τ) arg11 fullShare d)
        ∗ (iprop(owns (c : Thread nD τ) arg2 fullShare x ∗ owns (c : Thread nD τ) arg3 fullShare w ∗ owns (c : Thread nD τ) arg11 fullShare (k0_pay2 x w)) -∗ K ⟨⟩))
      ⊢ wp frame (wpE (defs₀ (F := F)) Variants.none c none) E (cc0__router_body i arg2 harg2 arg3 harg3 arg4 harg4 arg5 harg5 arg6 harg6 arg7 harg7 arg8 harg8 arg9 harg9 arg10 harg10 arg11 harg11 arg12 harg12 arg13 harg13 arg14 harg14) K := by
  simp only [cc0__router_body_eq_skeleton]; unfold cc0__router_body_skel
  simp only [k0_part1_eq_skeleton]
  unfold owns
  iintro ⟨⟨%f2, %hf2, H2⟩, ⟨%f3, %hf3, H3⟩, ⟨%d11, %f11, -, H11⟩, Hk⟩
  obtain rfl := harg2.eq_unread hf2; obtain rfl := harg3.eq_unread hf3
  sl_exec (disch := first | sl_exact hc0 | sl_exact hc1 | sl_exact hc2)
  sl_step
  iapply Hk
  isplitl [H2]
  · iexists _; isplitr
    swap; · iexact H2
    ipureintro; exact harg2.read_unread _
  isplitl [H3]
  · iexists _; isplitr
    swap; · iexact H3
    ipureintro; exact harg3.read_unread _
  iexists _; isplitr
  swap; · iexact H11
  ipureintro; refine (View.read_writes_full _ _ _ _ _).trans ?_
  simp only [load_1024x1024, reload_1024x1024, load_1024x64, reload_1024x64, load_64x1024, reload_64x1024, load_1x1024, reload_1x1024]

end Cert.KernelIdeal.Router

end
-- ==== Proof.KernelIdeal.RunB.lean ====
/- The second half of the first block: routed, the accumulators set. Of the idealised kernel. -/
module

public import proofs.«01_k».proof.Proof.KernelIdeal.Conds

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The second half of the first block: routed, the accumulators set. -/
theorem runB (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S1x1 .f32) (harg10 : arg10.IsWhole) (arg11 : Memref sig .tc .vmem S1024x64 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S1x1024 .f32) (harg14 : arg14.IsWhole)
    (hc0 : ¬condFst i) (hc1 : condSnd i) (hc2 : condPost i) (hc3 : condInit i) (hc4 : ¬condAcc i) (hc5 : ¬condLast i)
    (x : Vec F S1024x1024 .f32) (w p : Vec F S1024x64 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg11 fullShare p ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x ∗ owns (c : Thread nD τ) arg3 fullShare w ∗ owns (c : Thread nD τ) arg4 fullShare (k0_pay28 (k0_pay3 x w p)) ∗ owns (c : Thread nD τ) arg5 fullShare (k0_pay29 (k0_pay3 x w p)) ∗ owns (c : Thread nD τ) arg6 fullShare (k0_pay26 (k0_pay3 x w p)) ∗ owns (c : Thread nD τ) arg7 fullShare (k0_pay27 (k0_pay3 x w p)) ∗ owns (c : Thread nD τ) arg11 fullShare (k0_pay3 x w p) ∗ owns (c : Thread nD τ) arg12 fullShare (psInit (k0_pay3 x w p)) ∗ owns (c : Thread nD τ) arg13 fullShare (cntInit (k0_pay3 x w p)) ∗ owns (c : Thread nD τ) arg14 fullShare (lseInit (k0_pay3 x w p))) -∗ K ⟨⟩))
      ⊢ wp frame (wpE (defs₀ (F := F)) Variants.none c none) E (cc0__router_body i arg2 harg2 arg3 harg3 arg4 harg4 arg5 harg5 arg6 harg6 arg7 harg7 arg8 harg8 arg9 harg9 arg10 harg10 arg11 harg11 arg12 harg12 arg13 harg13 arg14 harg14) K := by
  simp only [cc0__router_body_eq_skeleton]; unfold cc0__router_body_skel
  simp only [k0_part1_eq_skeleton]
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%f11, %hf11, H11⟩, ⟨%d12, %f12, -, H12⟩, ⟨%d13, %f13, -, H13⟩, ⟨%d14, %f14, -, H14⟩, Hk⟩
  obtain rfl := harg2.eq_unread hf2; obtain rfl := harg3.eq_unread hf3; obtain rfl := harg11.eq_unread hf11
  sl_exec (disch := first | sl_exact hc0 | sl_exact hc1 | sl_exact hc2 | sl_exact hc3 | sl_exact hc4 | sl_exact hc5)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H5]
  · iexists _; isplitr
    swap; · iexact H5
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H6]
  · iexists _; isplitr
    swap; · iexact H6
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H7]
  · iexists _; isplitr
    swap; · iexact H7
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H11]
  · iexists _; isplitr
    swap; · iexact H11
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H12]
  · iexists _; isplitr
    swap; · iexact H12
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H13]
  · iexists _; isplitr
    swap; · iexact H13
    ipureintro; refine (View.read_writes_full _ _ _ _ _).trans ?_
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  iexists _; isplitr
  swap; · iexact H14
  ipureintro; refine (View.read_writes_full _ _ _ _ _).trans ?_
  (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
  (try delta runB.sl.r); (try delta runB.sl.r_1); (try delta runB.sl.r_2); (try delta runB.sl.r_3); (try delta runB.sl.r_4); (try delta runB.sl.r_5); (try delta runB.sl.r_6); (try delta runB.sl.v15); (try delta runB.sl.v13); (try delta runB.sl.v13_1); (try delta runB.sl.v80); (try delta runB.sl.v82); (try delta runB.sl.v84); (try delta runB.sl.v85); (try delta runB.sl.v88); (try delta runB.sl.v90); (try delta runB.sl.H11); (try delta runB.sl.H11_1); (try delta runB.sl.H12); (try delta runB.sl.H12_1); (try delta runB.sl.H13); (try delta runB.sl.H13_1); (try delta runB.sl.H14); (try delta runB.sl.H14_1); (try delta runB.sl.v13)
  (try unfold psInit); (try unfold psNext); (try unfold cntInit); (try unfold cntNext); (try unfold lseInit); (try unfold lseNext); (try unfold rowNo)
  simp only [load_1024x1024, reload_1024x1024, load_1024x64, reload_1024x64, load_64x1024, reload_64x1024, load_1x1024, reload_1x1024]

end Cert.KernelIdeal.Router

end
-- ==== Proof.KernelIdeal.RunC.lean ====
/- The second half of a middle block: routed, the accumulators added to. Of the idealised kernel. -/
module

public import proofs.«01_k».proof.Proof.KernelIdeal.Conds

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The second half of a middle block: routed, the accumulators added to. -/
theorem runC (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S1x1 .f32) (harg10 : arg10.IsWhole) (arg11 : Memref sig .tc .vmem S1024x64 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S1x1024 .f32) (harg14 : arg14.IsWhole)
    (hc0 : ¬condFst i) (hc1 : condSnd i) (hc2 : condPost i) (hc3 : ¬condInit i) (hc4 : condAcc i) (hc5 : ¬condLast i)
    (x : Vec F S1024x1024 .f32) (w p : Vec F S1024x64 .f32) (a b : Vec F S64x1024 .f32) (d : Vec F S1x1024 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg11 fullShare p ∗ owns (c : Thread nD τ) arg12 fullShare a ∗ owns (c : Thread nD τ) arg13 fullShare b ∗ owns (c : Thread nD τ) arg14 fullShare d
        ∗ (iprop(owns (c : Thread nD τ) arg2 fullShare x ∗ owns (c : Thread nD τ) arg3 fullShare w ∗ owns (c : Thread nD τ) arg4 fullShare (k0_pay28 (k0_pay3 x w p)) ∗ owns (c : Thread nD τ) arg5 fullShare (k0_pay29 (k0_pay3 x w p)) ∗ owns (c : Thread nD τ) arg6 fullShare (k0_pay26 (k0_pay3 x w p)) ∗ owns (c : Thread nD τ) arg7 fullShare (k0_pay27 (k0_pay3 x w p)) ∗ owns (c : Thread nD τ) arg11 fullShare (k0_pay3 x w p) ∗ owns (c : Thread nD τ) arg12 fullShare (psNext (k0_pay3 x w p) a) ∗ owns (c : Thread nD τ) arg13 fullShare (cntNext (k0_pay3 x w p) b) ∗ owns (c : Thread nD τ) arg14 fullShare (lseNext (k0_pay3 x w p) d)) -∗ K ⟨⟩))
      ⊢ wp frame (wpE (defs₀ (F := F)) Variants.none c none) E (cc0__router_body i arg2 harg2 arg3 harg3 arg4 harg4 arg5 harg5 arg6 harg6 arg7 harg7 arg8 harg8 arg9 harg9 arg10 harg10 arg11 harg11 arg12 harg12 arg13 harg13 arg14 harg14) K := by
  simp only [cc0__router_body_eq_skeleton]; unfold cc0__router_body_skel
  simp only [k0_part1_eq_skeleton]
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4 | sl_exact hc5)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H5]
  · iexists _; isplitr
    swap; · iexact H5
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H6]
  · iexists _; isplitr
    swap; · iexact H6
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H7]
  · iexists _; isplitr
    swap; · iexact H7
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H11]
  · iexists _; isplitr
    swap; · iexact H11
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H12]
  · iexists _; isplitr
    swap; · iexact H12
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H13]
  · iexists _; isplitr
    swap; · iexact H13
    ipureintro; refine (View.read_writes_full _ _ _ _ _).trans ?_
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  iexists _; isplitr
  swap; · iexact H14
  ipureintro; refine (View.read_writes_full _ _ _ _ _).trans ?_
  (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
  (try delta runC.sl.r); (try delta runC.sl.r_1); (try delta runC.sl.r_2); (try delta runC.sl.r_3); (try delta runC.sl.r_4); (try delta runC.sl.r_5); (try delta runC.sl.r_6); (try delta runC.sl.v15); (try delta runC.sl.v13); (try delta runC.sl.v13_1); (try delta runC.sl.v80); (try delta runC.sl.v82); (try delta runC.sl.v84); (try delta runC.sl.v85); (try delta runC.sl.v88); (try delta runC.sl.v90); (try delta runC.sl.H11); (try delta runC.sl.H11_1); (try delta runC.sl.H12); (try delta runC.sl.H12_1); (try delta runC.sl.H13); (try delta runC.sl.H13_1); (try delta runC.sl.H14); (try delta runC.sl.H14_1); (try delta runC.sl.v13)
  (try unfold psInit); (try unfold psNext); (try unfold cntInit); (try unfold cntNext); (try unfold lseInit); (try unfold lseNext); (try unfold rowNo)
  simp only [load_1024x1024, reload_1024x1024, load_1024x64, reload_1024x64, load_64x1024, reload_64x1024, load_1x1024, reload_1x1024]

end Cert.KernelIdeal.Router

end
-- ==== Proof.KernelIdeal.RunD.lean ====
/- The second half of the last block: routed, the accumulators added to and summed over the lanes. Of the idealised kernel. -/
module

public import proofs.«01_k».proof.Proof.KernelIdeal.Conds

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The second half of the last block: routed, the accumulators added to and summed over the lanes. -/
theorem runD (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1x1x1024 .i32) (harg4 : arg4.IsWhole) (arg5 : Memref sig .tc .vmem S1x1x1024 .i32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S1x1 .f32) (harg10 : arg10.IsWhole) (arg11 : Memref sig .tc .vmem S1024x64 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S1x1024 .f32) (harg14 : arg14.IsWhole)
    (hc0 : ¬condFst i) (hc1 : condSnd i) (hc2 : condPost i) (hc3 : ¬condInit i) (hc4 : condAcc i) (hc5 : condLast i)
    (x : Vec F S1024x1024 .f32) (w p : Vec F S1024x64 .f32) (a b : Vec F S64x1024 .f32) (d : Vec F S1x1024 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare p ∗ owns (c : Thread nD τ) arg12 fullShare a ∗ owns (c : Thread nD τ) arg13 fullShare b ∗ owns (c : Thread nD τ) arg14 fullShare d
        ∗ (iprop(owns (c : Thread nD τ) arg2 fullShare x ∗ owns (c : Thread nD τ) arg3 fullShare w ∗ owns (c : Thread nD τ) arg4 fullShare (k0_pay28 (k0_pay3 x w p)) ∗ owns (c : Thread nD τ) arg5 fullShare (k0_pay29 (k0_pay3 x w p)) ∗ owns (c : Thread nD τ) arg6 fullShare (k0_pay26 (k0_pay3 x w p)) ∗ owns (c : Thread nD τ) arg7 fullShare (k0_pay27 (k0_pay3 x w p)) ∗ owns (c : Thread nD τ) arg8 fullShare (k0_pay15 (cntNext (k0_pay3 x w p) b)) ∗ owns (c : Thread nD τ) arg9 fullShare (k0_pay16 (psNext (k0_pay3 x w p) a)) ∗ owns (c : Thread nD τ) arg10 fullShare (k0_pay17 (lseNext (k0_pay3 x w p) d)) ∗ owns (c : Thread nD τ) arg11 fullShare (k0_pay3 x w p) ∗ owns (c : Thread nD τ) arg12 fullShare (psNext (k0_pay3 x w p) a) ∗ owns (c : Thread nD τ) arg13 fullShare (cntNext (k0_pay3 x w p) b) ∗ owns (c : Thread nD τ) arg14 fullShare (lseNext (k0_pay3 x w p) d)) -∗ K ⟨⟩))
      ⊢ wp frame (wpE (defs₀ (F := F)) Variants.none c none) E (cc0__router_body i arg2 harg2 arg3 harg3 arg4 harg4 arg5 harg5 arg6 harg6 arg7 harg7 arg8 harg8 arg9 harg9 arg10 harg10 arg11 harg11 arg12 harg12 arg13 harg13 arg14 harg14) K := by
  simp only [cc0__router_body_eq_skeleton]; unfold cc0__router_body_skel
  simp only [k0_part1_eq_skeleton]
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4 | sl_exact hc5)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H5]
  · iexists _; isplitr
    swap; · iexact H5
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H6]
  · iexists _; isplitr
    swap; · iexact H6
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H7]
  · iexists _; isplitr
    swap; · iexact H7
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H8]
  · iexists _; isplitr
    swap; · iexact H8
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H9]
  · iexists _; isplitr
    swap; · iexact H9
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H10]
  · iexists _; isplitr
    swap; · iexact H10
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H11]
  · iexists _; isplitr
    swap; · iexact H11
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H12]
  · iexists _; isplitr
    swap; · iexact H12
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  isplitl [H13]
  · iexists _; isplitr
    swap; · iexact H13
    ipureintro; refine (View.read_writes_full _ _ _ _ _).trans ?_
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
    (try unfold psInit); (try unfold psNext); (try unfold cntInit); (try unfold cntNext); (try unfold lseInit); (try unfold lseNext); (try unfold rowNo)
    simp only [load_1024x1024, reload_1024x1024, load_1024x64, reload_1024x64, load_64x1024, reload_64x1024, load_1x1024, reload_1x1024]
  iexists _; isplitr
  swap; · iexact H14
  ipureintro; refine (View.read_writes_full _ _ _ _ _).trans ?_
  (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
  (try delta runD.sl.r); (try delta runD.sl.r_1); (try delta runD.sl.r_2); (try delta runD.sl.r_3); (try delta runD.sl.r_4); (try delta runD.sl.r_5); (try delta runD.sl.r_6); (try delta runD.sl.v15); (try delta runD.sl.v13); (try delta runD.sl.v13_1); (try delta runD.sl.v80); (try delta runD.sl.v82); (try delta runD.sl.v84); (try delta runD.sl.v85); (try delta runD.sl.v88); (try delta runD.sl.v90); (try delta runD.sl.H11); (try delta runD.sl.H11_1); (try delta runD.sl.H12); (try delta runD.sl.H12_1); (try delta runD.sl.H13); (try delta runD.sl.H13_1); (try delta runD.sl.H14); (try delta runD.sl.H14_1); (try delta runD.sl.v13)
  (try unfold psInit); (try unfold psNext); (try unfold cntInit); (try unfold cntNext); (try unfold lseInit); (try unfold lseNext); (try unfold rowNo)
  simp only [load_1024x1024, reload_1024x1024, load_1024x64, reload_1024x64, load_64x1024, reload_64x1024, load_1x1024, reload_1x1024]

end Cert.KernelIdeal.Router

end
-- ==== Proof.KernelIdeal.Run.lean ====
/- The idealised kernel's run: the scratch buffers along the grid, the body at every point, the launch and the frame. -/
module

public import proofs.«01_k».proof.Proof.KernelIdeal.RunA
public import proofs.«01_k».proof.Proof.KernelIdeal.RunB
public import proofs.«01_k».proof.Proof.KernelIdeal.RunC
public import proofs.«01_k».proof.Proof.KernelIdeal.RunD
public import Idealize.ShloMosaic.Lib.Claim

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The values along the grid -/

/-- Point number `n`. -/
def pt (n : ℕ) : Fin cfg0.N := ⟨n % 32, lt_of_lt_of_eq (Nat.mod_lt _ (by omega)) (show 32 = cfg0.N from N_0.symm)⟩
theorem lt_N (t : Fin cfg0.N) : t.val < 32 := lt_of_lt_of_eq t.isLt (show cfg0.N = 32 from N_0)
theorem pt_val (t : Fin cfg0.N) {n : ℕ} (h : n = t.val) : pt n = t :=
  Fin.ext (by subst h; exact Nat.mod_eq_of_lt (lt_N t))

/-- The product of the first halves, of block `b`. -/
def part (c : Dev nD) (b : ℕ) : Vec F S1024x64 .f32 := k0_pay2 (iblk m c 0 (pt (2 * b))) (iblk m c 1 (pt (2 * b)))
/-- The logits of block `b`. -/
def lg (c : Dev nD) (b : ℕ) : Vec F S1024x64 .f32 := k0_pay3 (iblk m c 0 (pt (2 * b + 1))) (iblk m c 1 (pt (2 * b + 1))) (part m c b)
/-- The three accumulators after block `b`. -/
def psAt (c : Dev nD) : ℕ → Vec F S64x1024 .f32
  | 0 => psInit (lg m c 0)
  | b + 1 => psNext (lg m c (b + 1)) (psAt c b)
def cntAt (c : Dev nD) : ℕ → Vec F S64x1024 .f32
  | 0 => cntInit (lg m c 0)
  | b + 1 => cntNext (lg m c (b + 1)) (cntAt c b)
def lseAt (c : Dev nD) : ℕ → Vec F S1x1024 .f32
  | 0 => lseInit (lg m c 0)
  | b + 1 => lseNext (lg m c (b + 1)) (lseAt c b)

/-- What the four scratch buffers hold before point `n`. -/
def Holds (c : Dev nD) (n : ℕ) (s0 : Vec F S1024x64 .f32) (s1 s2 : Vec F S64x1024 .f32) (s3 : Vec F S1x1024 .f32) : Prop :=
  (n % 2 = 1 → s0 = part m c (n / 2)) ∧ (2 ≤ n → s1 = psAt m c (n / 2 - 1) ∧ s2 = cntAt m c (n / 2 - 1) ∧ s3 = lseAt m c (n / 2 - 1))

abbrev sc0 : Memref sig .tc .vmem S1024x64 .f32 := Memref.whole cc0_scratch0
abbrev sc1 : Memref sig .tc .vmem S64x1024 .f32 := Memref.whole cc0_scratch1
abbrev sc2 : Memref sig .tc .vmem S64x1024 .f32 := Memref.whole cc0_scratch2
abbrev sc3 : Memref sig .tc .vmem S1x1024 .f32 := Memref.whole cc0_scratch3

/-- The invariant before point `n`: the scratch buffers at `Holds`, the generator at some state. -/
def Phi (c : Dev nD) (n : ℕ) : sProp 𝕄 :=
  iprop((∃ s0, ∃ s1, ∃ s2, ∃ s3, ⌜Holds m c n s0 s1 s2 s3⌝ ∗ owns (c : Thread nD τ) sc0 fullShare s0 ∗ owns (c : Thread nD τ) sc1 fullShare s1
    ∗ owns (c : Thread nD τ) sc2 fullShare s2 ∗ owns (c : Thread nD τ) sc3 fullShare s3) ∗ (∃ r, prngReg c r))

/-- The class's invariant, its scratch buffers as memrefs. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The proof data: arrays as the region finds them, inputs left in place, the outputs at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay28 (lg m c (t.val / 2))
    | ⟨3, _⟩ => k0_pay29 (lg m c (t.val / 2))
    | ⟨4, _⟩ => k0_pay26 (lg m c (t.val / 2))
    | ⟨5, _⟩ => k0_pay27 (lg m c (t.val / 2))
    | ⟨6, _⟩ => k0_pay15 (cntAt m c (t.val / 2))
    | ⟨7, _⟩ => k0_pay16 (psAt m c (t.val / 2))
    | ⟨8, _⟩ => k0_pay17 (lseAt m c (t.val / 2))
  Φ t := Phi m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay28 (lg m c (t.val / 2)) := by dsimp only [dats]
theorem after3 (c : Dev nD) (t : Fin cfg0.N) : (dats m 0 c).after 3 t = k0_pay29 (lg m c (t.val / 2)) := by dsimp only [dats]
theorem after4 (c : Dev nD) (t : Fin cfg0.N) : (dats m 0 c).after 4 t = k0_pay26 (lg m c (t.val / 2)) := by dsimp only [dats]
theorem after5 (c : Dev nD) (t : Fin cfg0.N) : (dats m 0 c).after 5 t = k0_pay27 (lg m c (t.val / 2)) := by dsimp only [dats]
theorem after6 (c : Dev nD) (t : Fin cfg0.N) : (dats m 0 c).after 6 t = k0_pay15 (cntAt m c (t.val / 2)) := by dsimp only [dats]
theorem after7 (c : Dev nD) (t : Fin cfg0.N) : (dats m 0 c).after 7 t = k0_pay16 (psAt m c (t.val / 2)) := by dsimp only [dats]
theorem after8 (c : Dev nD) (t : Fin cfg0.N) : (dats m 0 c).after 8 t = k0_pay17 (lseAt m c (t.val / 2)) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem bodyA (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [Dat.leavesExact_idle (dats m 0 c) 2 t (idle2 t h) (noFlush2 t h)]
  rw [Dat.leavesExact_idle (dats m 0 c) 3 t (idle3 t h) (noFlush3 t h)]
  rw [Dat.leavesExact_idle (dats m 0 c) 4 t (idle4 t h) (noFlush4 t h)]
  rw [Dat.leavesExact_idle (dats m 0 c) 5 t (idle5 t h) (noFlush5 t h)]
  rw [Dat.leavesExact_idle (dats m 0 c) 6 t (idle6 t (by omega)) (noFlush6 t (by omega))]
  rw [Dat.leavesExact_idle (dats m 0 c) 7 t (idle7 t (by omega)) (noFlush7 t (by omega))]
  rw [Dat.leavesExact_idle (dats m 0 c) 8 t (idle8 t (by omega)) (noFlush8 t (by omega))]
  unfold Phi
  have hN := lt_N t
  iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) _ _ _ _ _ _ _ _ _ _ _ _ _ _ _ _ _ _ _ _ _ _ _ _ _ _ ((condFst_iff t).mpr (by omega)) (fun h => absurd ((condSnd_iff t).mp h) (by omega)) (fun h => absurd ((condPost_iff t).mp h) (by omega)) (iblk m c 0 t) (iblk m c 1 t) Set.univ _)
  isplitl [H0]; · iexact H0
  isplitl [H1]; · iexact H1
  isplitl [HS0]; · iexists _; iexact HS0
  iintro ⟨H0, H1, HS0⟩
  isplitl [HS0 HS1 HS2 HS3 Hg]
  · isplitl [HS0 HS1 HS2 HS3]
    · iexists _; iexists _; iexists _; iexists _; isplitr
      swap
      · isplitl [HS0]; · iexact HS0
        isplitl [HS1]; · iexact HS1
        isplitl [HS2]; · iexact HS2
        iexact HS3
      ipureintro
      refine ⟨fun _ => ?_, fun hn => ?_⟩
      · unfold part; rw [pt_val t (by omega)]
      · have e : (t.val + 1) / 2 = t.val / 2 := by omega
        rw [e]; exact hI.2 (by omega)
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iexists _; iexact H8

set_option maxHeartbeats 4000000 in
theorem bodyB (c : Dev nD) (t : Fin cfg0.N) (h : t.val % 2 = 1) (h0 : t.val / 2 = 0) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t h], after2]
  rw [show (dats m 0 c).leavesExact 3 t = owns (c : Thread nD τ) (st0_3 t) fullShare ((dats m 0 c).after 3 t) from by
    unfold Dat.leavesExact; rw [live3 t h], after3]
  rw [show (dats m 0 c).leavesExact 4 t = owns (c : Thread nD τ) (st0_4 t) fullShare ((dats m 0 c).after 4 t) from by
    unfold Dat.leavesExact; rw [live4 t h], after4]
  rw [show (dats m 0 c).leavesExact 5 t = owns (c : Thread nD τ) (st0_5 t) fullShare ((dats m 0 c).after 5 t) from by
    unfold Dat.leavesExact; rw [live5 t h], after5]
  rw [Dat.leavesExact_idle (dats m 0 c) 6 t (idle6 t (by omega)) (noFlush6 t (by omega))]
  rw [Dat.leavesExact_idle (dats m 0 c) 7 t (idle7 t (by omega)) (noFlush7 t (by omega))]
  rw [Dat.leavesExact_idle (dats m 0 c) 8 t (idle8 t (by omega)) (noFlush8 t (by omega))]
  unfold Phi
  have hN := lt_N t
  iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hs : s0 = part m c (t.val / 2) := hI.1 h
  subst hs
  have hl : k0_pay3 (iblk m c 0 t) (iblk m c 1 t) (part m c (t.val / 2)) = lg m c (t.val / 2) := by
    unfold lg; rw [pt_val t (by omega)]
  rw [← hl]
  iapply (runB c (grid0.coords t) _ _ _ _ _ _ _ _ _ _ _ _ _ _ _ _ _ _ _ _ _ _ _ _ _ _ (fun h => absurd ((condFst_iff t).mp h) (by omega)) ((condSnd_iff t).mpr (by omega)) ((condPost_iff t).mpr (by omega)) ((condInit_iff t).mpr (by omega)) (fun h => absurd ((condAcc_iff t).mp h) (by omega)) (fun h => absurd ((condLast_iff t).mp h) (by omega)) (iblk m c 0 t) (iblk m c 1 t) (part m c (t.val / 2)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexists _; iexact HS1
  isplitl [HS2]; · iexists _; iexact HS2
  isplitl [HS3]; · iexists _; iexact HS3
  iintro ⟨H0, H1, H2, H3, H4, H5, HS0, HS1, HS2, HS3⟩
  isplitl [HS0 HS1 HS2 HS3 Hg]
  · isplitl [HS0 HS1 HS2 HS3]
    · iexists _; iexists _; iexists _; iexists _; isplitr
      swap
      · isplitl [HS0]; · iexact HS0
        isplitl [HS1]; · iexact HS1
        isplitl [HS2]; · iexact HS2
        iexact HS3
      ipureintro
      rw [hl]
      refine ⟨fun hn => absurd hn (by omega), fun _ => ?_⟩
      have e : (t.val + 1) / 2 - 1 = 0 := by omega
      rw [e, h0]; exact ⟨rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem bodyC (c : Dev nD) (t : Fin cfg0.N) (h : t.val % 2 = 1) (h0 : 0 < t.val / 2) (h1 : t.val / 2 ≠ 15) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t h], after2]
  rw [show (dats m 0 c).leavesExact 3 t = owns (c : Thread nD τ) (st0_3 t) fullShare ((dats m 0 c).after 3 t) from by
    unfold Dat.leavesExact; rw [live3 t h], after3]
  rw [show (dats m 0 c).leavesExact 4 t = owns (c : Thread nD τ) (st0_4 t) fullShare ((dats m 0 c).after 4 t) from by
    unfold Dat.leavesExact; rw [live4 t h], after4]
  rw [show (dats m 0 c).leavesExact 5 t = owns (c : Thread nD τ) (st0_5 t) fullShare ((dats m 0 c).after 5 t) from by
    unfold Dat.leavesExact; rw [live5 t h], after5]
  rw [Dat.leavesExact_idle (dats m 0 c) 6 t (idle6 t (by omega)) (noFlush6 t (by omega))]
  rw [Dat.leavesExact_idle (dats m 0 c) 7 t (idle7 t (by omega)) (noFlush7 t (by omega))]
  rw [Dat.leavesExact_idle (dats m 0 c) 8 t (idle8 t (by omega)) (noFlush8 t (by omega))]
  unfold Phi
  have hN := lt_N t
  iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hs : s0 = part m c (t.val / 2) := hI.1 h
  subst hs
  have hl : k0_pay3 (iblk m c 0 t) (iblk m c 1 t) (part m c (t.val / 2)) = lg m c (t.val / 2) := by
    unfold lg; rw [pt_val t (by omega)]
  have hb : t.val / 2 = (t.val / 2 - 1) + 1 := by omega
  obtain ⟨h1, h2, h3⟩ := hI.2 (by omega)
  subst h1; subst h2; subst h3
  rw [← hl]
  iapply (runC c (grid0.coords t) _ _ _ _ _ _ _ _ _ _ _ _ _ _ _ _ _ _ _ _ _ _ _ _ _ _ (fun h => absurd ((condFst_iff t).mp h) (by omega)) ((condSnd_iff t).mpr (by omega)) ((condPost_iff t).mpr (by omega)) (fun h => absurd ((condInit_iff t).mp h) (by omega)) ((condAcc_iff t).mpr (by omega)) (fun h => absurd ((condLast_iff t).mp h) (by omega)) (iblk m c 0 t) (iblk m c 1 t) (part m c (t.val / 2)) (psAt m c (t.val / 2 - 1)) (cntAt m c (t.val / 2 - 1)) (lseAt m c (t.val / 2 - 1)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · iexists _; iexists _; iexists _; iexists _; isplitr
      swap
      · isplitl [HS0]; · iexact HS0
        isplitl [HS1]; · iexact HS1
        isplitl [HS2]; · iexact HS2
        iexact HS3
      ipureintro
      rw [hl]
      refine ⟨fun hn => absurd hn (by omega), fun _ => ?_⟩
      have e : (t.val + 1) / 2 - 1 = (t.val / 2 - 1) + 1 := by omega
      rw [e]; rw [show lg m c (t.val / 2) = lg m c (t.val / 2 - 1 + 1) from by rw [← hb]]; exact ⟨rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
theorem bodyD (c : Dev nD) (t : Fin cfg0.N) (h : t.val % 2 = 1) (h0 : t.val / 2 = 15) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t h], after2]
  rw [show (dats m 0 c).leavesExact 3 t = owns (c : Thread nD τ) (st0_3 t) fullShare ((dats m 0 c).after 3 t) from by
    unfold Dat.leavesExact; rw [live3 t h], after3]
  rw [show (dats m 0 c).leavesExact 4 t = owns (c : Thread nD τ) (st0_4 t) fullShare ((dats m 0 c).after 4 t) from by
    unfold Dat.leavesExact; rw [live4 t h], after4]
  rw [show (dats m 0 c).leavesExact 5 t = owns (c : Thread nD τ) (st0_5 t) fullShare ((dats m 0 c).after 5 t) from by
    unfold Dat.leavesExact; rw [live5 t h], after5]
  rw [show (dats m 0 c).leavesExact 6 t = owns (c : Thread nD τ) (st0_6 t) fullShare ((dats m 0 c).after 6 t) from by
    unfold Dat.leavesExact; rw [live6 t (by omega)], after6]
  rw [show (dats m 0 c).leavesExact 7 t = owns (c : Thread nD τ) (st0_7 t) fullShare ((dats m 0 c).after 7 t) from by
    unfold Dat.leavesExact; rw [live7 t (by omega)], after7]
  rw [show (dats m 0 c).leavesExact 8 t = owns (c : Thread nD τ) (st0_8 t) fullShare ((dats m 0 c).after 8 t) from by
    unfold Dat.leavesExact; rw [live8 t (by omega)], after8]
  unfold Phi
  have hN := lt_N t
  iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hs : s0 = part m c (t.val / 2) := hI.1 h
  subst hs
  have hl : k0_pay3 (iblk m c 0 t) (iblk m c 1 t) (part m c (t.val / 2)) = lg m c (t.val / 2) := by
    unfold lg; rw [pt_val t (by omega)]
  have hb : t.val / 2 = (t.val / 2 - 1) + 1 := by omega
  obtain ⟨h1, h2, h3⟩ := hI.2 (by omega)
  subst h1; subst h2; subst h3
  have e1 : cntAt m c (t.val / 2) = cntNext (lg m c (t.val / 2)) (cntAt m c (t.val / 2 - 1)) := by
    conv_lhs => rw [hb]
    rw [show lg m c (t.val / 2) = lg m c (t.val / 2 - 1 + 1) from by rw [← hb]]; rfl
  have e2 : psAt m c (t.val / 2) = psNext (lg m c (t.val / 2)) (psAt m c (t.val / 2 - 1)) := by
    conv_lhs => rw [hb]
    rw [show lg m c (t.val / 2) = lg m c (t.val / 2 - 1 + 1) from by rw [← hb]]; rfl
  have e3 : lseAt m c (t.val / 2) = lseNext (lg m c (t.val / 2)) (lseAt m c (t.val / 2 - 1)) := by
    conv_lhs => rw [hb]
    rw [show lg m c (t.val / 2) = lg m c (t.val / 2 - 1 + 1) from by rw [← hb]]; rfl
  rw [e1, e2, e3, ← hl]
  iapply (runD c (grid0.coords t) _ _ _ _ _ _ _ _ _ _ _ _ _ _ _ _ _ _ _ _ _ _ _ _ _ _ (fun h => absurd ((condFst_iff t).mp h) (by omega)) ((condSnd_iff t).mpr (by omega)) ((condPost_iff t).mpr (by omega)) (fun h => absurd ((condInit_iff t).mp h) (by omega)) ((condAcc_iff t).mpr (by omega)) ((condLast_iff t).mpr (by omega)) (iblk m c 0 t) (iblk m c 1 t) (part m c (t.val / 2)) (psAt m c (t.val / 2 - 1)) (cntAt m c (t.val / 2 - 1)) (lseAt m c (t.val / 2 - 1)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · iexists _; iexists _; iexists _; iexists _; isplitr
      swap
      · isplitl [HS0]; · iexact HS0
        isplitl [HS1]; · iexact HS1
        isplitl [HS2]; · iexact HS2
        iexact HS3
      ipureintro
      rw [hl]
      refine ⟨fun hn => absurd hn (by omega), fun _ => ?_⟩
      have e : (t.val + 1) / 2 - 1 = (t.val / 2 - 1) + 1 := by omega
      rw [e]; rw [show lg m c (t.val / 2) = lg m c (t.val / 2 - 1 + 1) from by rw [← hb]]; exact ⟨rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · exact bodyA m c t h
  have h : t.val % 2 = 1 := by omega
  by_cases h0 : t.val / 2 = 0
  · exact bodyB m c t h h0
  by_cases h1 : t.val / 2 = 15
  · exact bodyD m c t h h1
  · exact bodyC m c t h (by omega) h1

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%s0, HS0⟩, ⟨%s1, HS1⟩, ⟨%s2, HS2⟩, ⟨%s3, HS3⟩⟩, Hg⟩
  isplitl [HS0 HS1 HS2 HS3]
  · iexists _; iexists _; iexists _; iexists _; isplitr
    swap
    · isplitl [HS0]; · iexact HS0
      isplitl [HS1]; · iexact HS1
      isplitl [HS2]; · iexact HS2
      iexact HS3
    ipureintro
    exact ⟨fun h => absurd h (by omega), fun h => absurd h (by omega)⟩
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%s0, %s1, %s2, %s3, %hI, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run -/

set_option backward.isDefEq.respectTransparency.types false in
set_option maxHeartbeats 800000 in
/-- Every execution terminates, with the arrays and the other buffers as the proof data say and every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_post m ρ)

/-- The frame: it terminates, the arguments end as launched, every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (args_kept m ρ) ((θ_run defs _ _).mono (fun _ h => h.2) (run_quiescent m ρ))

end Cert.KernelIdeal.Router

end
-- ==== Proof.Frames.lean ====
/- The claims that ask for no values: each program runs to its end with its arguments kept and its counters at zero, and the
   idealised kernel is the kernel with one constant named. -/
module

public import proofs.«01_k».proof.Defs
public import proofs.«01_k».proof.Proof.Kernel.Run
public import proofs.«01_k».proof.Proof.KernelIdeal.Run
public import proofs.«01_k».proof.Proof.Gen.ReferenceIdeal.Run

@[expose] public section

noncomputable section

namespace Cert.Router

open Idealize.ShloMosaic Idealize.SL.Sem

theorem frame_kernel : Cert.quiescent_Kernel := fun m ρ _ => Cert.Kernel.Router.frame m ρ

theorem frame_ideal : Cert.quiescent_KernelIdeal := fun m ρ _ => Cert.KernelIdeal.Router.frame m ρ

/-- The reference names no counter, so every counter it has is at zero. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_ideal_finite [Cert.Pre_finite_inputs.Facts] : Cert.quiescent_KernelIdeal_pre_finite_inputs := fun m ρ _ =>
  Cert.KernelIdeal.Router.frame m ρ

theorem frame_reference_finite [Cert.Pre_finite_inputs.Facts] : Cert.quiescent_ReferenceIdeal_pre_finite_inputs := fun m ρ _ =>
  frame_reference m ρ trivial

/-- The one constant named: the mask, for minus infinity. -/
theorem preserved : Cert.preserves_Kernel_KernelIdeal :=
  IdealRules.named_const.statement Cert.KernelIdeal.κ "mask" .f32 0xF149F2CA#32 ⊥ rfl

end Cert.Router

end
-- ==== Proof.KernelIdeal.Outputs.lean ====
/- The idealised kernel's output arrays after the region, index by index. -/
module

public import proofs.«01_k».proof.Proof.KernelIdeal.Run
public import Idealize.ShloMosaic.Lib.Pipeline.ValueKit
public import Idealize.ShloMosaic.Lib.ValueIdx

@[expose] public section

set_option maxRecDepth 16384

noncomputable section

namespace Cert.KernelIdeal.Router

open Cert.KernelIdeal.Gen
open Idealize.ShloMosaic Idealize.ShloMosaic.TcCoe Idealize.ShloMosaic.Tactic
open Idealize.SL.Sem

variable {F : FTy → Type} [FloatOps F] [Named F]
variable (m : (ℓ : Loc nD τ sig) → Buf (Elt F) ℓ)

theorem idx2 : ∀ t : Fin cfg0.N, win0_2.index t = ![t.val / 2, 0, 0] :=
  (by decide +kernel : ∀ t : Fin grid0.N, win0_2.index t = ![t.val / 2, 0, 0])

theorem out2 (c : Dev nD) :
    (dats m 0 c).arrAt 2 cfg0.N = (fun i => k0_pay28 (lg m c (i 0).val) (ix3 0 0 (i 2)) : Vec F S16x1x1024 .i32) := by
  refine (dats m 0 c).arrAt_eq_of_covers 2 _ (by decide +kernel) fun t hf y => ?_
  blk_simp
  rw [after2]
  have h0 : win0_2.index t 0 = t.val / 2 := by rw [idx2]; rfl
  rw [h0]
  congr 1
  funext a
  apply Fin.ext
  idx_bounds y
  match a with
  | 0 => have : (y 0).val = 0 := by omega
         exact this
  | 1 => have : (y 1).val = 0 := by omega
         exact this
  | 2 => have : (((win0_2.blk t).view.emb y) 2 : ℕ) = y 2 := by
           blk_simp [idx2]
         exact this.symm

theorem idx3 : ∀ t : Fin cfg0.N, win0_3.index t = ![t.val / 2, 0, 0] :=
  (by decide +kernel : ∀ t : Fin grid0.N, win0_3.index t = ![t.val / 2, 0, 0])

theorem out3 (c : Dev nD) :
    (dats m 0 c).arrAt 3 cfg0.N = (fun i => k0_pay29 (lg m c (i 0).val) (ix3 0 0 (i 2)) : Vec F S16x1x1024 .i32) := by
  refine (dats m 0 c).arrAt_eq_of_covers 3 _ (by decide +kernel) fun t hf y => ?_
  blk_simp
  rw [after3]
  have h0 : win0_3.index t 0 = t.val / 2 := by rw [idx3]; rfl
  rw [h0]
  congr 1
  funext a
  apply Fin.ext
  idx_bounds y
  match a with
  | 0 => have : (y 0).val = 0 := by omega
         exact this
  | 1 => have : (y 1).val = 0 := by omega
         exact this
  | 2 => have : (((win0_3.blk t).view.emb y) 2 : ℕ) = y 2 := by
           blk_simp [idx3]
         exact this.symm

theorem idx4 : ∀ t : Fin cfg0.N, win0_4.index t = ![t.val / 2, 0, 0] :=
  (by decide +kernel : ∀ t : Fin grid0.N, win0_4.index t = ![t.val / 2, 0, 0])

theorem out4 (c : Dev nD) :
    (dats m 0 c).arrAt 4 cfg0.N = (fun i => k0_pay26 (lg m c (i 0).val) (ix3 0 0 (i 2)) : Vec F S16x1x1024 .f32) := by
  refine (dats m 0 c).arrAt_eq_of_covers 4 _ (by decide +kernel) fun t hf y => ?_
  blk_simp
  rw [after4]
  have h0 : win0_4.index t 0 = t.val / 2 := by rw [idx4]; rfl
  rw [h0]
  congr 1
  funext a
  apply Fin.ext
  idx_bounds y
  match a with
  | 0 => have : (y 0).val = 0 := by omega
         exact this
  | 1 => have : (y 1).val = 0 := by omega
         exact this
  | 2 => have : (((win0_4.blk t).view.emb y) 2 : ℕ) = y 2 := by
           blk_simp [idx4]
         exact this.symm

theorem idx5 : ∀ t : Fin cfg0.N, win0_5.index t = ![t.val / 2, 0, 0] :=
  (by decide +kernel : ∀ t : Fin grid0.N, win0_5.index t = ![t.val / 2, 0, 0])

theorem out5 (c : Dev nD) :
    (dats m 0 c).arrAt 5 cfg0.N = (fun i => k0_pay27 (lg m c (i 0).val) (ix3 0 0 (i 2)) : Vec F S16x1x1024 .f32) := by
  refine (dats m 0 c).arrAt_eq_of_covers 5 _ (by decide +kernel) fun t hf y => ?_
  blk_simp
  rw [after5]
  have h0 : win0_5.index t 0 = t.val / 2 := by rw [idx5]; rfl
  rw [h0]
  congr 1
  funext a
  apply Fin.ext
  idx_bounds y
  match a with
  | 0 => have : (y 0).val = 0 := by omega
         exact this
  | 1 => have : (y 1).val = 0 := by omega
         exact this
  | 2 => have : (((win0_5.blk t).view.emb y) 2 : ℕ) = y 2 := by
           blk_simp [idx5]
         exact this.symm

theorem out6 (c : Dev nD) : (dats m 0 c).arrAt 6 cfg0.N = (k0_pay15 (cntAt m c 15) : Vec F S64x1 .f32) := by
  refine (dats m 0 c).arrAt_eq_of_after_last 6 (⟨31, by decide⟩ : Fin cfg0.N) (by decide +kernel) _ ?_
  rw [after6]
  intro j
  rfl

theorem out7 (c : Dev nD) : (dats m 0 c).arrAt 7 cfg0.N = (k0_pay16 (psAt m c 15) : Vec F S64x1 .f32) := by
  refine (dats m 0 c).arrAt_eq_of_after_last 7 (⟨31, by decide⟩ : Fin cfg0.N) (by decide +kernel) _ ?_
  rw [after7]
  intro j
  rfl

theorem out8 (c : Dev nD) : (dats m 0 c).arrAt 8 cfg0.N = (k0_pay17 (lseAt m c 15) : Vec F S1x1 .f32) := by
  refine (dats m 0 c).arrAt_eq_of_after_last 8 (⟨31, by decide⟩ : Fin cfg0.N) (by decide +kernel) _ ?_
  rw [after8]
  intro j
  rfl

end Cert.KernelIdeal.Router

end
-- ==== Proof.Top2.lean ====
/- The two largest entries of a list of numbers, the earlier position winning a tie, and a stable sort's first two. -/
module

public import Idealize.ShloMosaic.Lib.SortPrefix
public import Mathlib.Data.Real.Basic

@[expose] public section

noncomputable section

namespace Cert.Router

open Idealize.ShloMosaic

/-- On a nonempty set of positions there is a first position of the largest value. -/
theorem exists_argmax {n : Nat} (v : Fin n → ℝ) (T : Finset (Fin n)) (hT : T.Nonempty) :
    ∃ a ∈ T, (∀ e ∈ T, v e ≤ v a) ∧ ∀ e ∈ T, e < a → v e < v a := by
  classical
  obtain ⟨x, hx, hmax⟩ := T.exists_max_image v hT
  have hne : (T.filter fun e => v e = v x).Nonempty := ⟨x, by simp [hx]⟩
  have hmem := (T.filter fun e => v e = v x).min'_mem hne
  rw [Finset.mem_filter] at hmem
  refine ⟨_, hmem.1, fun e he => ?_, fun e he hlt => ?_⟩
  · rw [hmem.2]; exact hmax e he
  · rw [hmem.2]
    refine lt_of_le_of_ne (hmax e he) fun h => ?_
    have := (T.filter fun e => v e = v x).min'_le e (by simp [he, h])
    exact absurd hlt (not_lt.mpr this)

/-- The first position of the largest of 64 numbers. -/
def fst (v : Fin 64 → ℝ) : Fin 64 := (exists_argmax v Finset.univ Finset.univ_nonempty).choose

theorem fst_ge (v : Fin 64 → ℝ) (e : Fin 64) : v e ≤ v (fst v) :=
  (exists_argmax v Finset.univ Finset.univ_nonempty).choose_spec.2.1 e (Finset.mem_univ e)

theorem fst_first (v : Fin 64 → ℝ) (e : Fin 64) (h : e < fst v) : v e < v (fst v) :=
  (exists_argmax v Finset.univ Finset.univ_nonempty).choose_spec.2.2 e (Finset.mem_univ e) h

theorem others_nonempty (a : Fin 64) : (Finset.univ.erase a).Nonempty := by
  rw [← Finset.card_pos, Finset.card_erase_of_mem (Finset.mem_univ a)]
  simp

/-- The first position of the largest of the remaining 63. -/
def snd (v : Fin 64 → ℝ) : Fin 64 := (exists_argmax v (Finset.univ.erase (fst v)) (others_nonempty _)).choose

theorem snd_ne (v : Fin 64 → ℝ) : snd v ≠ fst v :=
  Finset.ne_of_mem_erase (exists_argmax v (Finset.univ.erase (fst v)) (others_nonempty _)).choose_spec.1

theorem snd_ge (v : Fin 64 → ℝ) (e : Fin 64) (h : e ≠ fst v) : v e ≤ v (snd v) :=
  (exists_argmax v (Finset.univ.erase (fst v)) (others_nonempty _)).choose_spec.2.1 e
    (Finset.mem_erase.mpr ⟨h, Finset.mem_univ e⟩)

theorem snd_first (v : Fin 64 → ℝ) (e : Fin 64) (h : e ≠ fst v) (hlt : e < snd v) : v e < v (snd v) :=
  (exists_argmax v (Finset.univ.erase (fst v)) (others_nonempty _)).choose_spec.2.2 e
    (Finset.mem_erase.mpr ⟨h, Finset.mem_univ e⟩) hlt

/-- Larger value first, then earlier position. -/
def before (v : Fin 64 → ℝ) (k k' : Fin 64) : Bool :=
  decide (v k' < v k) || (decide (v k = v k') && decide (k < k'))

theorem before_strict (v : Fin 64 → ℝ) : StrictTotalBefore (before v) := by
  refine StrictTotalBefore.of_key_then_position (fun a b : ℝ => decide (b < a)) v ?_ ?_ ?_
  · simp
  · intro a b c; simpa using fun h h' => lt_trans h' h
  · intro a b
    rcases lt_trichotomy a b with h | h | h <;> simp [h]

theorem get_cast_congr {n : Nat} {l l' : List (Fin n)} (h : l = l') (k : Fin n) (p : n = l.length) (p' : n = l'.length) :
    l.get (k.cast p) = l'.get (k.cast p') := by
  subst h
  rfl

/-- A stable sort of increasing positions by value alone sorts ties by position. -/
theorem stableSort_value (v : Fin 64 → ℝ) (l : List (Fin 64)) (hl : l.Pairwise (· < ·)) :
    stableSort (fun k k' => decide (v k' < v k)) l = stableSort (before v) l := by
  induction l with
  | nil => rfl
  | cons a l ih =>
    rw [List.pairwise_cons] at hl
    unfold stableSort
    rw [ih hl.2]
    have key : ∀ L : List (Fin 64), (∀ b ∈ L, a < b) →
        insertBefore (fun k k' => decide (v k' < v k)) a L = insertBefore (before v) a L := by
      intro L
      induction L with
      | nil => intro _; rfl
      | cons b L ihL =>
        intro hL
        have hb : before v b a = decide (v a < v b) := by
          have : ¬ b < a := not_lt.mpr (le_of_lt (hL b (by simp)))
          simp [before, this]
        unfold insertBefore
        rw [hb, ihL fun x hx => hL x (by simp [hx])]
    exact key _ fun b hb => hl.1 b ((perm_stableSort (before v) l).mem_iff.mp hb)

theorem sortedFrom_value (v : Fin 64 → ℝ) (k : Fin 64) :
    sortedFrom (fun k k' => decide (v k' < v k)) k = sortedFrom (before v) k := by
  have h : sortPositions 64 (fun k k' => decide (v k' < v k)) = sortPositions 64 (before v) :=
    stableSort_value v _ (List.pairwise_lt_finRange 64)
  exact get_cast_congr h k _ _

/-- The sort's first two positions. -/
theorem sortedFrom_two (v : Fin 64 → ℝ) (i : Fin 2) :
    sortedFrom (fun k k' => decide (v k' < v k)) (i.castLE (by decide)) = ![fst v, snd v] i := by
  rw [sortedFrom_value]
  have hne := snd_ne v
  refine (before_strict v).sortedFrom_eq_of_prefix (by decide) ![fst v, snd v] ?_ ?_ ?_ i
  · intro i j hij
    match i, j with
    | 0, 0 => rfl
    | 0, 1 => exact absurd hij.symm hne
    | 1, 0 => exact absurd hij hne
    | 1, 1 => rfl
  · intro i j hij
    match i, j with
    | 0, 0 => exact absurd hij (lt_irrefl _)
    | 0, 1 =>
      show before v (snd v) (fst v) = false
      have h1 := fst_ge v (snd v)
      have h2 := fst_first v (snd v)
      simp only [before, Bool.or_eq_false_iff, Bool.and_eq_false_iff, decide_eq_false_iff_not, not_lt]
      refine ⟨h1, ?_⟩
      by_cases h : snd v < fst v
      · exact Or.inl (ne_of_lt (h2 h))
      · exact Or.inr (not_lt.mp h)
    | 1, 0 => exact absurd hij (by decide)
    | 1, 1 => exact absurd hij (lt_irrefl _)
  · intro i p hp
    match i with
    | 0 =>
      show before v p (fst v) = false
      have h1 := fst_ge v p
      have h2 := fst_first v p
      simp only [before, Bool.or_eq_false_iff, Bool.and_eq_false_iff, decide_eq_false_iff_not, not_lt]
      refine ⟨h1, ?_⟩
      by_cases h : p < fst v
      · exact Or.inl (ne_of_lt (h2 h))
      · exact Or.inr (not_lt.mp h)
    | 1 =>
      show before v p (snd v) = false
      have hpf : p ≠ fst v := fun h => hp 0 h.symm
      have h1 := snd_ge v p hpf
      have h2 := snd_first v p hpf
      simp only [before, Bool.or_eq_false_iff, Bool.and_eq_false_iff, decide_eq_false_iff_not, not_lt]
      refine ⟨h1, ?_⟩
      by_cases h : p < snd v
      · exact Or.inl (ne_of_lt (h2 h))
      · exact Or.inr (not_lt.mp h)

end Cert.Router

end
-- ==== Proof.Spec.lean ====
/- The router's results as plain formulas in the real activations and weights. -/
module

public import proofs.«01_k».proof.Proof.Top2
public import Idealize.ShloMosaic.PureOps.Ideal.Laws
public import Mathlib.Analysis.SpecialFunctions.Log.Basic

@[expose] public section

noncomputable section

namespace Cert.Router

open Idealize.ShloMosaic

/-! ## What a token contributes -/

/-- The sum of the exponentials of the logits less the largest. -/
def esum (v : Fin 64 → ℝ) : ℝ := ∑ k, Real.exp (v k - v (fst v))
/-- The router's probability of expert `e`. -/
def prob (v : Fin 64 → ℝ) (e : Fin 64) : ℝ := Real.exp (v e - v (fst v)) / esum v
/-- How often expert `e` is chosen. -/
def hot (v : Fin 64 → ℝ) (e : Fin 64) : ℝ := (if e = fst v then 1 else 0) + (if e = snd v then 1 else 0)
/-- The logarithm of the sum of the exponentials. -/
def lse (v : Fin 64 → ℝ) : ℝ := v (fst v) + Real.log (esum v)
/-- The chosen pair's second exponential, the first being one. -/
def gap (v : Fin 64 → ℝ) : ℝ := Real.exp (v (snd v) - v (fst v))
/-- The chosen experts, in order. -/
def pick (v : Fin 64 → ℝ) (k : Fin 2) : Fin 64 := if k.val < 1 then fst v else snd v
/-- Their weights. -/
def gate (v : Fin 64 → ℝ) (k : Fin 2) : ℝ := if k.val < 1 then 1 / (1 + gap v) else gap v / (1 + gap v)

theorem esum_pos (v : Fin 64 → ℝ) : 0 < esum v :=
  Finset.sum_pos (fun k _ => Real.exp_pos _) Finset.univ_nonempty

theorem gap_pos (v : Fin 64 → ℝ) : 0 < 1 + gap v := by
  have := Real.exp_pos (v (snd v) - v (fst v))
  unfold gap
  linarith

/-- The shift by the largest logit does not change the logarithm of the sum. -/
theorem lse_eq (v : Fin 64 → ℝ) : lse v = Real.log (∑ k, Real.exp (v k)) := by
  have h : ∑ k, Real.exp (v k) = Real.exp (v (fst v)) * esum v := by
    unfold esum
    rw [Finset.mul_sum]
    refine Finset.sum_congr rfl fun k _ => ?_
    rw [← Real.exp_add]
    congr 1
    ring
  rw [h, Real.log_mul (Real.exp_pos _).ne' (esum_pos v).ne', Real.log_exp]
  rfl

/-! ## All tokens -/

/-- Token `n`'s logits: row `n % 4096` of sequence `n / 4096`. -/
def tok (x : Fin 4 → Fin 4096 → Fin 2048 → ℝ) (w : Fin 2048 → Fin 64 → ℝ) (n : ℕ) (e : Fin 64) : ℝ :=
  ∑ d, x ⟨n / 4096 % 4, Nat.mod_lt _ (by omega)⟩ ⟨n % 4096, Nat.mod_lt _ (by omega)⟩ d * w d e

/-- The tokens' total of `f`, for the logits `t`. -/
def total (t : ℕ → Fin 64 → ℝ) (f : (Fin 64 → ℝ) → ℝ) : ℝ := ∑ n ∈ Finset.range 16384, f (t n)

/-- Expert `e`'s share of the choices: the count over the number of tokens. -/
def share (t : ℕ → Fin 64 → ℝ) (e : Fin 64) : EReal :=
  Ideal.div ((total t fun v => hot v e : ℝ) : EReal) (Ideal.ofBits FTy.f32 1182793728#32)
/-- Expert `e`'s mean probability. -/
def meanProb (t : ℕ → Fin 64 → ℝ) (e : Fin 64) : EReal :=
  Ideal.div ((total t fun v => prob v e : ℝ) : EReal) (Ideal.ofBits FTy.f32 1182793728#32)
/-- The load-balancing loss. -/
def auxLoss (t : ℕ → Fin 64 → ℝ) : EReal :=
  (∑ e, share t e * meanProb t e) * Ideal.ofBits FTy.f32 1115684864#32 * Ideal.ofBits FTy.f32 1008981770#32
/-- The mean of the logarithms of the sums of the exponentials. -/
def meanLse (t : ℕ → Fin 64 → ℝ) : EReal := Ideal.div ((total t lse : ℝ) : EReal) (Ideal.ofBits FTy.f32 1182793728#32)
/-- The square of that mean, weighted. -/
def zLoss (t : ℕ → Fin 64 → ℝ) : EReal := meanLse t * meanLse t * Ideal.ofBits FTy.f32 981668463#32

/-! ## Sums taken block by block -/

theorem sum_blocks (q : ℕ) (f : ℕ → ℝ) (J : ℕ) :
    ∑ j ∈ Finset.range J, ∑ r : Fin q, f (q * j + r.val) = ∑ n ∈ Finset.range (q * J), f n := by
  induction J with
  | zero => simp
  | succ J ih =>
    rw [Finset.sum_range_succ, ih, Nat.mul_succ, Finset.sum_range_add]
    congr 1
    exact Fin.sum_univ_eq_sum_range (fun r => f (q * J + r)) q

/-- In 16 blocks of 1024, the blocks added first. -/
theorem total_by_blocks (t : ℕ → Fin 64 → ℝ) (f : (Fin 64 → ℝ) → ℝ) :
    ∑ r : Fin 1024, ∑ j ∈ Finset.range 16, f (t (1024 * j + r.val)) = total t f := by
  rw [Finset.sum_comm]
  exact sum_blocks 1024 (fun n => f (t n)) 16

/-- In 4 sequences of 4096. -/
theorem total_by_sequences (t : ℕ → Fin 64 → ℝ) (f : (Fin 64 → ℝ) → ℝ) :
    ∑ a : Fin 4, ∑ s : Fin 4096, f (t (4096 * a.val + s.val)) = total t f := by
  rw [Fin.sum_univ_eq_sum_range (fun a => ∑ s : Fin 4096, f (t (4096 * a + s.val))) 4]
  exact sum_blocks 4096 (fun n => f (t n)) 4

/-! ## Maxima, minima and sums of extended reals and words -/

theorem coe_sum {ι : Type} [Fintype ι] (f : ι → ℝ) : ∑ k, ((f k : ℝ) : EReal) = ((∑ k, f k : ℝ) : EReal) := by
  classical
  have : ∀ S : Finset ι, ∑ k ∈ S, ((f k : ℝ) : EReal) = ((∑ k ∈ S, f k : ℝ) : EReal) := by
    intro S
    induction S using Finset.induction_on with
    | empty => simp
    | insert a S ha ih => rw [Finset.sum_insert ha, Finset.sum_insert ha, ih, EReal.coe_add]
  exact this _

theorem coe_div (x y : ℝ) (h : y ≠ 0) : Ideal.div (x : EReal) (y : EReal) = ((x / y : ℝ) : EReal) := by
  rw [Ideal.div_coe h, ← EReal.coe_mul, mul_one_div]

theorem coe_log (x : ℝ) (h : 0 < x) : Ideal.log (x : EReal) = ((Real.log x : ℝ) : EReal) := by
  rw [Ideal.log_coe, if_neg (not_le.mpr h)]

theorem neg_inf : Ideal.ofBits FTy.f32 4286578688#32 = ⊥ := by
  simp [Ideal.ofBits, Ideal.ieee]

theorem fold_max_eq {n : ℕ} (f : Fin n → EReal) (a : Fin n) (h : ∀ e, f e ≤ f a) : Finset.univ.fold max ⊥ f = f a := by
  refine le_antisymm ?_ ?_
  · rw [Finset.fold_max_le]
    exact ⟨bot_le, fun e _ => h e⟩
  · rw [Finset.le_fold_max]
    exact Or.inr ⟨a, Finset.mem_univ a, le_rfl⟩

theorem word_eq (a b : Fin 64) : BitVec.ofNat 32 a.val = BitVec.ofNat 32 b.val ↔ a = b := by
  constructor
  · intro h
    have := congrArg BitVec.toNat h
    simp only [BitVec.toNat_ofNat] at this
    apply Fin.ext
    have := a.isLt
    have := b.isLt
    omega
  · rintro rfl; rfl

end Cert.Router

end
-- ==== Proof.KernelIdeal.Pay.lean ====
/- The idealised kernel's stages at one token, from that token's 64 real logits. -/
module

public import proofs.«01_k».proof.Proof.KernelIdeal.Conds
public import proofs.«01_k».proof.Proof.Spec
public import Idealize.ShloMosaic.PureOps.Ideal.Laws
public import Idealize.ShloMosaic.Lib.Pointwise
public import Idealize.ShloMosaic.Lib.ValueIdx
public import Idealize.ShloMosaic.Lib.SortNet.Extract
public import Mathlib.Analysis.SpecialFunctions.Log.Basic

@[expose] public section

set_option maxRecDepth 16384

noncomputable section

namespace Cert.Router

open Idealize.ShloMosaic

/-! ## Minima of words, and indicators -/

theorem toInt_fold_minsi (f : Fin 64 → BitVec 32) (init : BitVec 32) (S : Finset (Fin 64)) :
    (S.fold IntOp.minsi init f).toInt = S.fold min init.toInt fun e => (f e).toInt := by
  classical
  induction S using Finset.induction_on with
  | empty => simp
  | insert a S ha ih => rw [Finset.fold_insert ha, Finset.fold_insert ha, SortNet.toInt_minsi, ih]

/-- The smallest number of a marked position, all marked numbers being below the bound: the first marked position. -/
theorem fold_min_eq (P : Fin 64 → Prop) [DecidablePred P] (a : Fin 64) (ha : P a) (hfirst : ∀ e, e < a → ¬ P e) :
    Finset.univ.fold IntOp.minsi 2147483647#32 (fun e : Fin 64 => if P e then BitVec.ofNat 32 e.val else 64#32) =
      BitVec.ofNat 32 a.val := by
  have hw : ∀ e : Fin 64, (BitVec.ofNat 32 e.val).toInt = (e.val : ℤ) := by decide +kernel
  apply BitVec.eq_of_toInt_eq
  rw [toInt_fold_minsi, hw]
  refine le_antisymm ?_ ?_
  · rw [Finset.fold_min_le]
    refine Or.inr ⟨a, Finset.mem_univ a, ?_⟩
    rw [if_pos ha, hw]
  · rw [Finset.le_fold_min]
    refine ⟨?_, fun e _ => ?_⟩
    · have : (2147483647#32 : BitVec 32).toInt = 2147483647 := by decide
      have := a.isLt
      omega
    · by_cases he : P e
      · rw [if_pos he, hw]
        have : ¬ e < a := fun h => hfirst e h he
        exact_mod_cast not_lt.mp this
      · rw [if_neg he]
        have : (64#32 : BitVec 32).toInt = 64 := by decide
        have := a.isLt
        omega

/-- The indicator of an equality of two expert numbers, as the kernel makes it. -/
theorem indicator (a b : Fin 64) :
    ((((BitVec.setWidth 32 (IntOp.cmpi .eq (BitVec.ofNat 32 a.val) (BitVec.ofNat 32 b.val))).toInt : ℤ) : ℝ) : EReal) =
      ((if a = b then 1 else 0 : ℝ) : EReal) := by
  by_cases h : a = b
  · subst h
    rw [if_pos rfl, IntOp.cmpi_eq.mpr rfl]
    norm_num
  · have : IntOp.cmpi .eq (BitVec.ofNat 32 a.val) (BitVec.ofNat 32 b.val) = 0#1 := by
      have : IntOp.cmpi .eq (BitVec.ofNat 32 a.val) (BitVec.ofNat 32 b.val) ≠ 1#1 := fun h' =>
        h ((word_eq a b).mp (IntOp.cmpi_eq.mp h'))
      revert this
      generalize IntOp.cmpi .eq (BitVec.ofNat 32 a.val) (BitVec.ofNat 32 b.val) = z
      revert z
      decide
    rw [if_neg h, this]
    norm_num

end Cert.Router

namespace Cert.KernelIdeal.Router
open Cert.KernelIdeal.Gen Cert.Router
open Idealize.ShloMosaic Idealize.ShloMosaic.Tactic

section
variable (x : Vec Ideal S1024x64 .f32) (r : Fin 1024) (v : Fin 64 → ℝ) (hx : ∀ e, x (ix2 r e) = ((v e : ℝ) : EReal))
include hx

theorem pay18_at (e : Fin 64) : k0_pay18 x (ix2 e r) = ((v e : ℝ) : EReal) := by
  unfold k0_pay18
  pointwise
  exact hx e

theorem pay19_at : k0_pay19 x (ix2 0 r) = ((v (fst v) : ℝ) : EReal) := by
  unfold k0_pay19
  pointwise
  rw [neg_inf, fold_max_eq _ (fst v)]
  · exact pay18_at x r v hx _
  · intro e
    rw [pay18_at x r v hx, pay18_at x r v hx]
    exact EReal.coe_le_coe_iff.mpr (fst_ge v e)

theorem pay20_at : k0_pay20 (F := Ideal) x (ix2 0 r) = BitVec.ofNat 32 (fst v).val := by
  unfold k0_pay20
  pointwise
  refine fold_min_eq _ (fst v) ?_ ?_
  · rw [pay18_at x r v hx, pay19_at x r v hx]
  · intro e he
    rw [pay18_at x r v hx, pay19_at x r v hx, EReal.coe_eq_coe_iff]
    exact ne_of_lt (fst_first v e he)

theorem pay21_at (e : Fin 64) : k0_pay21 (F := Ideal) x (ix2 e r) = if e = fst v then ⊥ else ((v e : ℝ) : EReal) := by
  unfold k0_pay21
  pointwise
  rw [pay20_at x r v hx, pay18_at x r v hx,
    show (Named.named κ "mask" 4048155338#32 : Ideal .f32) = ⊥ from IdealRules.named_const.ideal_named_scalar _ _ _ _ rfl]
  by_cases h : e = fst v
  · subst h
    rw [if_pos rfl, IntOp.cmpi_eq.mpr rfl]
    rfl
  · rw [if_neg h]
    have : IntOp.cmpi .eq (BitVec.ofNat 32 e.val) (BitVec.ofNat 32 (fst v).val) ≠ 1#1 := fun h' =>
      h ((word_eq e (fst v)).mp (IntOp.cmpi_eq.mp h'))
    exact if_neg this

theorem pay22_at : k0_pay22 (F := Ideal) x (ix2 0 r) = ((v (snd v) : ℝ) : EReal) := by
  unfold k0_pay22
  pointwise
  rw [neg_inf, fold_max_eq _ (snd v)]
  · rw [pay21_at x r v hx, if_neg (snd_ne v)]
  · intro e
    rw [pay21_at x r v hx, pay21_at x r v hx, if_neg (snd_ne v)]
    by_cases h : e = fst v
    · rw [if_pos h]; exact bot_le
    · rw [if_neg h]
      exact EReal.coe_le_coe_iff.mpr (snd_ge v e h)

theorem pay23_at : k0_pay23 (F := Ideal) x (ix2 0 r) = BitVec.ofNat 32 (snd v).val := by
  unfold k0_pay23
  pointwise
  refine fold_min_eq _ (snd v) ?_ ?_
  · rw [pay21_at x r v hx, pay22_at x r v hx, if_neg (snd_ne v)]
  · intro e he
    rw [pay21_at x r v hx, pay22_at x r v hx]
    by_cases h : e = fst v
    · rw [if_pos h]; exact EReal.bot_ne_coe _
    · rw [if_neg h, EReal.coe_eq_coe_iff]
      exact ne_of_lt (snd_first v e h he)

theorem pay28_at : k0_pay28 (F := Ideal) x (ix3 0 0 r) = BitVec.ofNat 32 (fst v).val := by
  unfold k0_pay28
  pointwise
  exact pay20_at x r v hx

theorem pay29_at : k0_pay29 (F := Ideal) x (ix3 0 0 r) = BitVec.ofNat 32 (snd v).val := by
  unfold k0_pay29
  pointwise
  exact pay23_at x r v hx

theorem pay24_at : k0_pay24 (F := Ideal) x (ix2 0 r) = ((gap v : ℝ) : EReal) := by
  unfold k0_pay24
  pointwise
  rw [pay22_at x r v hx, pay19_at x r v hx, ← EReal.coe_sub, Ideal.exp_coe]
  rfl

theorem pay25_at : k0_pay25 (F := Ideal) x (ix2 0 r) = ((1 + gap v : ℝ) : EReal) := by
  unfold k0_pay25
  pointwise
  rw [pay24_at x r v hx, EReal.coe_add, EReal.coe_one]

theorem pay26_at : k0_pay26 (F := Ideal) x (ix3 0 0 r) = ((1 / (1 + gap v) : ℝ) : EReal) := by
  unfold k0_pay26
  pointwise
  rw [pay25_at x r v hx, ← EReal.coe_one, coe_div _ _ (gap_pos v).ne']

theorem pay27_at : k0_pay27 (F := Ideal) x (ix3 0 0 r) = ((gap v / (1 + gap v) : ℝ) : EReal) := by
  unfold k0_pay27
  pointwise
  rw [pay25_at x r v hx, pay24_at x r v hx, coe_div _ _ (gap_pos v).ne']

theorem pay4_at (e : Fin 64) :
    k0_pay4 (F := Ideal) (k0_pay18 x) (k0_pay19 x) (ix2 e r) = ((Real.exp (v e - v (fst v)) : ℝ) : EReal) := by
  unfold k0_pay4
  pointwise
  rw [pay18_at x r v hx, pay19_at x r v hx, ← EReal.coe_sub, Ideal.exp_coe]

theorem pay5_at : k0_pay5 (F := Ideal) (k0_pay18 x) (k0_pay19 x) (ix2 0 r) = ((esum v : ℝ) : EReal) := by
  unfold k0_pay5
  pointwise
  simp only [pay4_at x r v hx]
  exact coe_sum _

theorem pay6_at (e : Fin 64) : k0_pay6 (F := Ideal) (k0_pay18 x) (k0_pay19 x) (ix2 e r) = ((prob v e : ℝ) : EReal) := by
  unfold k0_pay6
  pointwise
  rw [pay4_at x r v hx, pay5_at x r v hx, ← EReal.coe_one, coe_div _ _ (esum_pos v).ne', ← EReal.coe_mul, mul_one_div]
  rfl

theorem pay7_at (e : Fin 64) :
    k0_pay7 (F := Ideal) rowNo (k0_pay20 x) (k0_pay23 x) (ix2 e r) = ((hot v e : ℝ) : EReal) := by
  unfold k0_pay7 rowNo
  pointwise
  rw [pay20_at x r v hx, pay23_at x r v hx]
  show ((((BitVec.setWidth 32 (IntOp.cmpi .eq (BitVec.ofNat 32 e.val) (BitVec.ofNat 32 (fst v).val))).toInt : ℤ) : ℝ) : EReal) +
    ((((BitVec.setWidth 32 (IntOp.cmpi .eq (BitVec.ofNat 32 e.val) (BitVec.ofNat 32 (snd v).val))).toInt : ℤ) : ℝ) : EReal) = _
  rw [indicator, indicator, ← EReal.coe_add]
  rfl

theorem pay8_at : k0_pay8 (F := Ideal) (k0_pay18 x) (k0_pay19 x) (ix2 0 r) = ((lse v : ℝ) : EReal) := by
  unfold k0_pay8
  pointwise
  rw [pay5_at x r v hx, pay19_at x r v hx, coe_log _ (esum_pos v), ← EReal.coe_add]
  rfl

/-! ## The accumulators, before and after -/

theorem psInit_at (e : Fin 64) : psInit (F := Ideal) x (ix2 e r) = ((prob v e : ℝ) : EReal) := by
  unfold psInit k0_pay9
  pointwise
  exact pay6_at x r v hx e

theorem psNext_at (a : Vec Ideal S64x1024 .f32) (e : Fin 64) (y : ℝ) (ha : a (ix2 e r) = ((y : ℝ) : EReal)) :
    psNext (F := Ideal) x a (ix2 e r) = ((y + prob v e : ℝ) : EReal) := by
  unfold psNext k0_pay12
  pointwise
  rw [pay6_at x r v hx e, ha, EReal.coe_add]

theorem cntInit_at (e : Fin 64) : cntInit (F := Ideal) x (ix2 e r) = ((hot v e : ℝ) : EReal) := by
  unfold cntInit k0_pay10
  pointwise
  exact pay7_at x r v hx e

theorem cntNext_at (a : Vec Ideal S64x1024 .f32) (e : Fin 64) (y : ℝ) (ha : a (ix2 e r) = ((y : ℝ) : EReal)) :
    cntNext (F := Ideal) x a (ix2 e r) = ((y + hot v e : ℝ) : EReal) := by
  unfold cntNext k0_pay13
  pointwise
  rw [pay7_at x r v hx e, ha, EReal.coe_add]

theorem lseInit_at : lseInit (F := Ideal) x (ix2 0 r) = ((lse v : ℝ) : EReal) := by
  unfold lseInit k0_pay11
  pointwise
  exact pay8_at x r v hx

theorem lseNext_at (a : Vec Ideal S1x1024 .f32) (y : ℝ) (ha : a (ix2 0 r) = ((y : ℝ) : EReal)) :
    lseNext (F := Ideal) x a (ix2 0 r) = ((y + lse v : ℝ) : EReal) := by
  unfold lseNext k0_pay14
  pointwise
  rw [pay8_at x r v hx, ha, EReal.coe_add]

end

end Cert.KernelIdeal.Router
end
-- ==== Proof.KernelIdeal.Logits.lean ====
/- The idealised kernel's logits, from the launched activations and weights. -/
module

public import proofs.«01_k».proof.Proof.KernelIdeal.Outputs
public import proofs.«01_k».proof.Proof.KernelIdeal.Pay

@[expose] public section

set_option maxRecDepth 16384

noncomputable section

namespace Cert.KernelIdeal.Router

open Cert.KernelIdeal.Gen Cert.Router
open Idealize.ShloMosaic Idealize.ShloMosaic.TcCoe Idealize.ShloMosaic.Tactic
open Idealize.SL.Sem

theorem flat_at (y : Vec Ideal S4x4096x2048 .f32) (i : Fin 16384) (d : Fin 2048) :
    shapeCast S16384x2048 y shapeCasts_S4x4096x2048_S16384x2048 (ix2 i d) =
      y (ix3 ⟨i.val / 4096, by omega⟩ ⟨i.val % 4096, by omega⟩ d) := by
  pointwise

variable (m : (ℓ : Loc nD τ sig) → Buf (Elt Ideal) ℓ)

/-- The launched activations and weights. -/
def X (c : Dev nD) : Vec Ideal S4x4096x2048 .f32 := m ((c.tc : Thread nD τ).loc main_arg0)
def W (c : Dev nD) : Vec Ideal S2048x64 .f32 := m ((c.tc : Thread nD τ).loc main_arg1)
/-- Their entries as reals. -/
def xr (c : Dev nD) (a : Fin 4) (s : Fin 4096) (d : Fin 2048) : ℝ := (X m c (ix3 a s d)).toReal
def wr (c : Dev nD) (d : Fin 2048) (e : Fin 64) : ℝ := (W m c (ix2 d e)).toReal
/-- Token `n`'s logits. -/
def T (c : Dev nD) (n : ℕ) : Fin 64 → ℝ := tok (xr m c) (wr m c) n

/-- Every entry is a real number. -/
def Finite (c : Dev nD) : Prop := (∀ a s d, X m c (ix3 a s d) = ((xr m c a s d : ℝ) : EReal)) ∧ ∀ d e, W m c (ix2 d e) = ((wr m c d e : ℝ) : EReal)

theorem v0_at (c : Dev nD) (i : Fin 16384) (d : Fin 2048) :
    (V m c main_v0 : Vec Ideal S16384x2048 .f32) (ix2 i d) = X m c (ix3 ⟨i.val / 4096, by omega⟩ ⟨i.val % 4096, by omega⟩ d) := by
  unfold V V0
  simp only [List.flatten_cons, List.flatten_nil, List.append_nil]
  after_results_simp
  exact flat_at _ i d

theorem idx0 : ∀ t : Fin cfg0.N, win0_0.index t = ![t.val / 2, t.val % 2] :=
  (by decide +kernel : ∀ t : Fin grid0.N, win0_0.index t = ![t.val / 2, t.val % 2])
theorem idx1 : ∀ t : Fin cfg0.N, win0_1.index t = ![t.val % 2, 0] :=
  (by decide +kernel : ∀ t : Fin grid0.N, win0_1.index t = ![t.val % 2, 0])

theorem blk0_at (c : Dev nD) (t : Fin cfg0.N) (r d : Fin 1024) :
    (iblk m c 0 t : Vec Ideal S1024x1024 .f32) (ix2 r d) =
      (V m c main_v0 : Vec Ideal S16384x2048 .f32) (ix2 ⟨1024 * (t.val / 2) + r.val, by have := lt_N t; omega⟩ ⟨1024 * (t.val % 2) + d.val, by omega⟩) := by
  blk_simp [iblk]
  congr 1
  funext a
  apply Fin.ext
  match a with
  | 0 => blk_simp [idx0]
         show t.val / 2 * 1024 + r.val = 1024 * (t.val / 2) + r.val
         omega
  | 1 => blk_simp [idx0]
         show t.val % 2 * 1024 + d.val = 1024 * (t.val % 2) + d.val
         omega

theorem blk1_at (c : Dev nD) (t : Fin cfg0.N) (d : Fin 1024) (e : Fin 64) :
    (iblk m c 1 t : Vec Ideal S1024x64 .f32) (ix2 d e) = W m c (ix2 ⟨1024 * (t.val % 2) + d.val, by omega⟩ e) := by
  blk_simp [iblk]
  refine (congrArg _ ?_).trans (congrFun (V_main_arg1 m c) _)
  funext a
  apply Fin.ext
  match a with
  | 0 => blk_simp [idx1]
         show t.val % 2 * 1024 + d.val = 1024 * (t.val % 2) + d.val
         omega
  | 1 => blk_simp [idx1]

theorem pay1_at (x : Vec Ideal S1024x1024 .f32) (w : Vec Ideal S1024x64 .f32) (r : Fin 1024) (e : Fin 64) :
    k0_pay1 (F := Ideal) x w (ix2 r e) = ∑ k : Fin 1024, x (ix2 r k) * w (ix2 k e) := by
  unfold k0_pay1
  pointwise

/-- The product of one block pair, as real numbers. -/
theorem half_at (c : Dev nD) (hfin : Finite m c) (b : ℕ) (hb : b < 16) (h : Fin 2) (r : Fin 1024) (e : Fin 64) :
    k0_pay1 (F := Ideal) (iblk m c 0 (pt (2 * b + h.val))) (iblk m c 1 (pt (2 * b + h.val))) (ix2 r e) =
      ((∑ k : Fin 1024, xr m c ⟨(1024 * b + r.val) / 4096 % 4, Nat.mod_lt _ (by omega)⟩ ⟨(1024 * b + r.val) % 4096, Nat.mod_lt _ (by omega)⟩
          ⟨1024 * h.val + k.val, by omega⟩ * wr m c ⟨1024 * h.val + k.val, by omega⟩ e : ℝ) : EReal) := by
  rw [pay1_at, ← coe_sum]
  refine Finset.sum_congr rfl fun k _ => ?_
  have hp : (pt (2 * b + h.val)).val = 2 * b + h.val := Nat.mod_eq_of_lt (by omega)
  rw [blk0_at, blk1_at, v0_at, hfin.1, hfin.2, EReal.coe_mul]
  have h1 : (pt (2 * b + h.val)).val / 2 = b := by omega
  have h2 : (pt (2 * b + h.val)).val % 2 = h.val := by omega
  have h3 : (1024 * b + r.val) / 4096 % 4 = (1024 * b + r.val) / 4096 := Nat.mod_eq_of_lt (by omega)
  simp only [h1, h2, h3]

/-- Block `b`'s logits are its tokens'. -/
theorem lg_at (c : Dev nD) (hfin : Finite m c) (b : ℕ) (hb : b < 16) (r : Fin 1024) (e : Fin 64) :
    lg (F := Ideal) m c b (ix2 r e) = ((T m c (1024 * b + r.val) e : ℝ) : EReal) := by
  unfold lg part k0_pay3 k0_pay2
  pointwise
  have h0 := half_at m c hfin b hb 0 r e
  have h1 := half_at m c hfin b hb 1 r e
  rw [show 2 * b + (0 : Fin 2).val = 2 * b from rfl] at h0
  rw [show 2 * b + (1 : Fin 2).val = 2 * b + 1 from rfl] at h1
  rw [h0, h1, ← EReal.coe_add]
  congr 1
  unfold T tok
  refine Eq.symm ((Fin.sum_univ_add (a := 1024) (b := 1024) _).trans ?_)
  congr 1

end Cert.KernelIdeal.Router

end
-- ==== Proof.KernelIdeal.Values.lean ====
/- The idealised kernel's results, from the launched activations and weights. -/
module

public import proofs.«01_k».proof.Proof.KernelIdeal.Logits

@[expose] public section

set_option maxRecDepth 16384

noncomputable section

namespace Cert.KernelIdeal.Router

open Cert.KernelIdeal.Gen Cert.Router
open Idealize.ShloMosaic Idealize.ShloMosaic.TcCoe Idealize.ShloMosaic.Tactic
open Idealize.SL.Sem

variable (m : (ℓ : Loc nD τ sig) → Buf (Elt Ideal) ℓ)

/-! ## The accumulators -/

theorem psAt_at (c : Dev nD) (hfin : Finite m c) (e : Fin 64) (r : Fin 1024) : ∀ b, b < 16 →
    psAt (F := Ideal) m c b (ix2 e r) = ((∑ j ∈ Finset.range (b + 1), prob (T m c (1024 * j + r.val)) e : ℝ) : EReal)
  | 0, h => by
    rw [Finset.sum_range_one]
    exact psInit_at _ r _ (fun e => lg_at m c hfin 0 h r e) e
  | b + 1, h => by
    rw [Finset.sum_range_succ]
    exact psNext_at _ r _ (fun e => lg_at m c hfin (b + 1) h r e) _ e _ (psAt_at c hfin e r b (by omega))

theorem cntAt_at (c : Dev nD) (hfin : Finite m c) (e : Fin 64) (r : Fin 1024) : ∀ b, b < 16 →
    cntAt (F := Ideal) m c b (ix2 e r) = ((∑ j ∈ Finset.range (b + 1), hot (T m c (1024 * j + r.val)) e : ℝ) : EReal)
  | 0, h => by
    rw [Finset.sum_range_one]
    exact cntInit_at _ r _ (fun e => lg_at m c hfin 0 h r e) e
  | b + 1, h => by
    rw [Finset.sum_range_succ]
    exact cntNext_at _ r _ (fun e => lg_at m c hfin (b + 1) h r e) _ e _ (cntAt_at c hfin e r b (by omega))

theorem lseAt_at (c : Dev nD) (hfin : Finite m c) (r : Fin 1024) : ∀ b, b < 16 →
    lseAt (F := Ideal) m c b (ix2 0 r) = ((∑ j ∈ Finset.range (b + 1), lse (T m c (1024 * j + r.val)) : ℝ) : EReal)
  | 0, h => by
    rw [Finset.sum_range_one]
    exact lseInit_at _ r _ (fun e => lg_at m c hfin 0 h r e)
  | b + 1, h => by
    rw [Finset.sum_range_succ]
    exact lseNext_at _ r _ (fun e => lg_at m c hfin (b + 1) h r e) _ _ (lseAt_at c hfin r b (by omega))

theorem count_at (c : Dev nD) (hfin : Finite m c) (e : Fin 64) :
    k0_pay15 (F := Ideal) (cntAt m c 15) (ix2 e 0) = ((total (T m c) fun v => hot v e : ℝ) : EReal) := by
  unfold k0_pay15
  pointwise
  simp only [cntAt_at m c hfin e _ 15 (by omega)]
  rw [coe_sum, ← total_by_blocks]

theorem probs_at (c : Dev nD) (hfin : Finite m c) (e : Fin 64) :
    k0_pay16 (F := Ideal) (psAt m c 15) (ix2 e 0) = ((total (T m c) fun v => prob v e : ℝ) : EReal) := by
  unfold k0_pay16
  pointwise
  simp only [psAt_at m c hfin e _ 15 (by omega)]
  rw [coe_sum, ← total_by_blocks]

theorem lses_at (c : Dev nD) (hfin : Finite m c) :
    k0_pay17 (F := Ideal) (lseAt m c 15) (ix2 0 0) = ((total (T m c) lse : ℝ) : EReal) := by
  unfold k0_pay17
  pointwise
  simp only [lseAt_at m c hfin _ 15 (by omega)]
  rw [coe_sum, ← total_by_blocks]

/-! ## The arrays the region leaves -/

/-- The memory after the region. -/
abbrev left (c : Dev nD) : Valuation τ sig (Elt Ideal) :=
  Pipeline.withArrays (cfgs 0).spec c (V0 m c) fun w => (dats m 0 c).arrAt w (cfgs 0).N

theorem arr_i0 (c : Dev nD) (hfin : Finite m c) (b : Fin 16) (r : Fin 1024) :
    (left m c (Proc.tc.devRef main_v1_0) : Vec Ideal S16x1x1024 .i32) (ix3 b 0 r) = BitVec.ofNat 32 (fst (T m c (1024 * b.val + r.val))).val := by
  refine (congrFun ((Pipeline.withArrays_arr _ winFacts0.arr_inj c (V0 m c) _ 2).trans (out2 m c)) _).trans ?_
  exact pay28_at _ r _ fun e => lg_at m c hfin b.val b.isLt r e

theorem arr_i1 (c : Dev nD) (hfin : Finite m c) (b : Fin 16) (r : Fin 1024) :
    (left m c (Proc.tc.devRef main_v1_1) : Vec Ideal S16x1x1024 .i32) (ix3 b 0 r) = BitVec.ofNat 32 (snd (T m c (1024 * b.val + r.val))).val := by
  refine (congrFun ((Pipeline.withArrays_arr _ winFacts0.arr_inj c (V0 m c) _ 3).trans (out3 m c)) _).trans ?_
  exact pay29_at _ r _ fun e => lg_at m c hfin b.val b.isLt r e

theorem arr_w0 (c : Dev nD) (hfin : Finite m c) (b : Fin 16) (r : Fin 1024) :
    (left m c (Proc.tc.devRef main_v1_2) : Vec Ideal S16x1x1024 .f32) (ix3 b 0 r) =
      ((1 / (1 + gap (T m c (1024 * b.val + r.val))) : ℝ) : EReal) := by
  refine (congrFun ((Pipeline.withArrays_arr _ winFacts0.arr_inj c (V0 m c) _ 4).trans (out4 m c)) _).trans ?_
  exact pay26_at _ r _ fun e => lg_at m c hfin b.val b.isLt r e

theorem arr_w1 (c : Dev nD) (hfin : Finite m c) (b : Fin 16) (r : Fin 1024) :
    (left m c (Proc.tc.devRef main_v1_3) : Vec Ideal S16x1x1024 .f32) (ix3 b 0 r) =
      ((gap (T m c (1024 * b.val + r.val)) / (1 + gap (T m c (1024 * b.val + r.val))) : ℝ) : EReal) := by
  refine (congrFun ((Pipeline.withArrays_arr _ winFacts0.arr_inj c (V0 m c) _ 5).trans (out5 m c)) _).trans ?_
  exact pay27_at _ r _ fun e => lg_at m c hfin b.val b.isLt r e

theorem arr_cnt (c : Dev nD) (hfin : Finite m c) (e : Fin 64) :
    (left m c (Proc.tc.devRef main_v1_4) : Vec Ideal S64x1 .f32) (ix2 e 0) = ((total (T m c) fun v => hot v e : ℝ) : EReal) :=
  (congrFun ((Pipeline.withArrays_arr _ winFacts0.arr_inj c (V0 m c) _ 6).trans (out6 m c)) _).trans (count_at m c hfin e)

theorem arr_ps (c : Dev nD) (hfin : Finite m c) (e : Fin 64) :
    (left m c (Proc.tc.devRef main_v1_5) : Vec Ideal S64x1 .f32) (ix2 e 0) = ((total (T m c) fun v => prob v e : ℝ) : EReal) :=
  (congrFun ((Pipeline.withArrays_arr _ winFacts0.arr_inj c (V0 m c) _ 7).trans (out7 m c)) _).trans (probs_at m c hfin e)

theorem arr_lse (c : Dev nD) (hfin : Finite m c) :
    (left m c (Proc.tc.devRef main_v1_6) : Vec Ideal S1x1 .f32) (ix2 0 0) = ((total (T m c) lse : ℝ) : EReal) :=
  (congrFun ((Pipeline.withArrays_arr _ winFacts0.arr_inj c (V0 m c) _ 8).trans (out8 m c)) _).trans (lses_at m c hfin)

/-! ## The host operations after the region -/

/-- The final memory's buffer `b`. -/
abbrev fin (c : Dev nD) (b : Ref sig .tc) : Buf (Elt Ideal) ((c.tc : Thread nD τ).loc b) :=
  Pipeline.afterTail₀ cfgs (dats m) 0 (V0 m) [hostOps1] c b

theorem row_of (a : Fin 4) (s : Fin 4096) : 1024 * ((a.val * 4096 + s.val) / 1024) + (a.val * 4096 + s.val) % 1024 = 4096 * a.val + s.val := by
  omega

/-- Two columns side by side, each a list in 16 blocks. -/
theorem columns_at {α : EltTy} (u v : Vec Ideal S16x1x1024 α) (a : Fin 4) (s : Fin 4096) (k : Fin 2) :
    shapeCast S4x4096x2 (concatenate S16384x2 1
      [⟨S16384x1, broadcastInDim S16384x1 ![0] bcast_S16384_S16384x1_0 (shapeCast S16384 u shapeCasts_S16x1x1024_S16384)⟩,
       ⟨S16384x1, broadcastInDim S16384x1 ![0] bcast_S16384_S16384x1_0 (shapeCast S16384 v shapeCasts_S16x1x1024_S16384)⟩]
      concatenates_S16384x1_S16384x1_S16384x2_d1) shapeCasts_S16384x2_S4x4096x2 (ix3 a s k) =
    if k.val < 1 then u (ix3 ⟨(a.val * 4096 + s.val) / 1024, by omega⟩ 0 ⟨(a.val * 4096 + s.val) % 1024, by omega⟩)
      else v (ix3 ⟨(a.val * 4096 + s.val) / 1024, by omega⟩ 0 ⟨(a.val * 4096 + s.val) % 1024, by omega⟩) := by
  pointwise
  split <;> rfl

theorem fin7 (c : Dev nD) (hfin : Finite m c) (a : Fin 4) (s : Fin 4096) (k : Fin 2) :
    (fin m c main_v7 : Vec Ideal S4x4096x2 .i32) (ix3 a s k) = BitVec.ofNat 32 (pick (T m c (4096 * a.val + s.val)) k).val := by
  unfold fin Pipeline.afterTail₀
  simp only [List.flatten_cons, List.flatten_nil, List.append_nil]
  after_results_simp
  refine (columns_at (α := .i32) (left m c (Proc.tc.devRef main_v1_0)) (left m c (Proc.tc.devRef main_v1_1)) a s k).trans ?_
  rw [arr_i0 m c hfin, arr_i1 m c hfin]
  simp only [row_of]
  unfold pick
  split <;> rfl

theorem fin13 (c : Dev nD) (hfin : Finite m c) (a : Fin 4) (s : Fin 4096) (k : Fin 2) :
    (fin m c main_v13 : Vec Ideal S4x4096x2 .f32) (ix3 a s k) = ((gate (T m c (4096 * a.val + s.val)) k : ℝ) : EReal) := by
  unfold fin Pipeline.afterTail₀
  simp only [List.flatten_cons, List.flatten_nil, List.append_nil]
  after_results_simp
  refine (columns_at (α := .f32) (left m c (Proc.tc.devRef main_v1_2)) (left m c (Proc.tc.devRef main_v1_3)) a s k).trans ?_
  rw [arr_w0 m c hfin, arr_w1 m c hfin]
  simp only [row_of]
  unfold gate
  split <;> rfl

theorem fin16 (c : Dev nD) (hfin : Finite m c) (e : Fin 64) :
    (fin m c main_v16 : Vec Ideal S64 .f32) (ix1 e) = share (T m c) e := by
  unfold fin Pipeline.afterTail₀
  simp only [List.flatten_cons, List.flatten_nil, List.append_nil]
  after_results_simp
  pointwise
  exact congrArg (fun z => Ideal.div z _) (arr_cnt m c hfin e)

theorem fin26 (c : Dev nD) (hfin : Finite m c) : (fin m c main_v26 : Vec Ideal S_ .f32) ix0 = auxLoss (T m c) := by
  unfold fin Pipeline.afterTail₀
  simp only [List.flatten_cons, List.flatten_nil, List.append_nil]
  after_results_simp
  pointwise
  unfold auxLoss
  congr 2
  refine Finset.sum_congr rfl fun e _ => ?_
  unfold share meanProb
  rw [← arr_cnt m c hfin e, ← arr_ps m c hfin e]

theorem fin27 (c : Dev nD) (hfin : Finite m c) : (fin m c main_v27 : Vec Ideal S_ .f32) ix0 = zLoss (T m c) := by
  unfold fin Pipeline.afterTail₀
  simp only [List.flatten_cons, List.flatten_nil, List.append_nil]
  after_results_simp
  pointwise
  unfold zLoss meanLse
  rw [← arr_lse m c hfin]

end Cert.KernelIdeal.Router

end
-- ==== Proof.ReferenceIdeal.Values.lean ====
/- The reference's results, from real activations and weights. -/
module

public import proofs.«01_k».proof.Proof.Gen.ReferenceIdeal.Run
public import proofs.«01_k».proof.Proof.Spec
public import Idealize.ShloMosaic.Lib.Pointwise
public import Idealize.ShloMosaic.Lib.ValueIdx
public import Idealize.ShloMosaic.Lib.Affine

@[expose] public section

set_option maxRecDepth 16384

noncomputable section

namespace Cert.ReferenceIdeal.Router
open Cert.ReferenceIdeal.Gen Cert.Router
open Idealize.ShloMosaic Idealize.ShloMosaic.Tactic

/-- The router's logits. -/
def logits (x : FVec Ideal S4x4096x2048 .f32) (w : FVec Ideal S2048x64 .f32) : FVec Ideal S4x4096x64 .f32 :=
  Host.dotGeneral dot_S4x4096x2048_S2048x64_S4x4096x64_2_0_01_1_n_n none x w

/-- The two largest logits of each token, and their experts. -/
def chosen (z : FVec Ideal S4x4096x64 .f32) : FVec Ideal S4x4096x2 .f32 × IVec S4x4096x2 32 :=
  Host.topK S4x4096x2 2 (FloatOps.cmpfTotal (F := Ideal) (φ := .f32) .gt) z sliceFits_S4x4096x64_S4x4096x2

/-- The larger of a token's two. -/
def top2 (y : FVec Ideal S4x4096x2 .f32) : FVec Ideal S4x4096 .f32 :=
  maximumf (broadcastInDim S4x4096 ![] bcast_S_S4x4096 (constant S_ .f32 0xFF800000#32)) (Host.reduce FloatOps.maximumf y (constant S_ .f32 0xFF800000#32) reducesTo_S4x4096x2_S4x4096_d2 h_S_)

/-- Their exponentials, less the larger. -/
def exp2 (y : FVec Ideal S4x4096x2 .f32) : FVec Ideal S4x4096x2 .f32 :=
  Host.exp (subf y (broadcastInDim S4x4096x2 ![0, 1, 2] bcast_S4x4096x1_S4x4096x2_0_1_2 (broadcastInDim S4x4096x1 ![0, 1] bcast_S4x4096_S4x4096x1_0_1 (top2 y))))

/-- Their softmax. -/
def soft2 (y : FVec Ideal S4x4096x2 .f32) : FVec Ideal S4x4096x2 .f32 :=
  Host.divf (exp2 y) (broadcastInDim S4x4096x2 ![0, 1, 2] bcast_S4x4096x1_S4x4096x2_0_1_2 (broadcastInDim S4x4096x1 ![0, 1] bcast_S4x4096_S4x4096x1_0_1 (Host.reduceAdd (exp2 y) (constant S_ .f32 0x00000000#32) reducesTo_S4x4096x2_S4x4096_d2 h_S_)))

/-- How often each expert is chosen by each token. -/
def hist (w : IVec S4x4096x2 32) : FVec Ideal S4x4096x64 .f32 :=
  Host.reduceAdd (uitofp .f32 (cmpi .eq (broadcastInDim S4x4096x2x64 ![0, 1, 2, 3] bcast_S4x4096x2x1_S4x4096x2x64_0_1_2_3 (broadcastInDim S4x4096x2x1 ![0, 1, 2] bcast_S4x4096x2_S4x4096x2x1_0_1_2 w)) (broadcastInDim S4x4096x2x64 ![0, 1, 2, 3] bcast_S1x1x1x64_S4x4096x2x64_0_1_2_3 (iotaInDim S1x1x1x64 32 3)))) (constant S_ .f32 0x00000000#32) reducesTo_S4x4096x2x64_S4x4096x64_d2 h_S_

/-- The mean over the tokens. -/
def mean64 (y : FVec Ideal S4x4096x64 .f32) : FVec Ideal S64 .f32 :=
  Host.divf (Host.reduceAdd y (constant S_ .f32 0x00000000#32) reducesTo_S4x4096x64_S64_d0_1 h_S_) (broadcastInDim S64 ![] bcast_S_S64 (constant S_ .f32 0x46800000#32))

/-- The largest of a token's 64. -/
def top64 (z : FVec Ideal S4x4096x64 .f32) : FVec Ideal S4x4096 .f32 :=
  maximumf (broadcastInDim S4x4096 ![] bcast_S_S4x4096 (constant S_ .f32 0xFF800000#32)) (Host.reduce FloatOps.maximumf z (constant S_ .f32 0xFF800000#32) reducesTo_S4x4096x64_S4x4096_d2 h_S_)

/-- The exponentials, less the largest. -/
def exp64 (z : FVec Ideal S4x4096x64 .f32) : FVec Ideal S4x4096x64 .f32 :=
  Host.exp (subf z (broadcastInDim S4x4096x64 ![0, 1, 2] bcast_S4x4096x1_S4x4096x64_0_1_2 (broadcastInDim S4x4096x1 ![0, 1] bcast_S4x4096_S4x4096x1_0_1 (top64 z))))

/-- The softmax over the experts. -/
def soft64 (z : FVec Ideal S4x4096x64 .f32) : FVec Ideal S4x4096x64 .f32 :=
  Host.divf (exp64 z) (broadcastInDim S4x4096x64 ![0, 1, 2] bcast_S4x4096x1_S4x4096x64_0_1_2 (broadcastInDim S4x4096x1 ![0, 1] bcast_S4x4096_S4x4096x1_0_1 (Host.reduceAdd (exp64 z) (constant S_ .f32 0x00000000#32) reducesTo_S4x4096x64_S4x4096_d2 h_S_)))

/-- The load-balancing loss, from the shares and the mean probabilities. -/
def loss (f p : FVec Ideal S64 .f32) : FVec Ideal S_ .f32 :=
  mulf (mulf (Host.reduceAdd (mulf f p) (constant S_ .f32 0x00000000#32) reducesTo_S64_S_d0 h_S_) (constant S_ .f32 0x42800000#32)) (constant S_ .f32 0x3C23D70A#32)

/-- The logarithm of the sum of the exponentials. -/
def logsum (z : FVec Ideal S4x4096x64 .f32) : FVec Ideal S4x4096 .f32 :=
  Host.log (Host.reduceAdd (Host.exp z) (constant S_ .f32 0x00000000#32) reducesTo_S4x4096x64_S4x4096_d2 h_S_)

/-- Its mean over the tokens. -/
def meanLog (z : FVec Ideal S4x4096x64 .f32) : FVec Ideal S_ .f32 :=
  Host.divf (Host.reduceAdd (logsum z) (constant S_ .f32 0x00000000#32) reducesTo_S4x4096_S_d0_1 h_S_) (constant S_ .f32 0x46800000#32)

/-- The mean squared, weighted. -/
def zsq (z : FVec Ideal S4x4096x64 .f32) : FVec Ideal S_ .f32 :=
  mulf (mulf (meanLog z) (meanLog z)) (constant S_ .f32 0x3A83126F#32)

/-! ## Sums over the tokens -/

/-- A sum over the first two axes, at one entry of the third. -/
theorem sum_tokens (y : S4x4096x64.Idx → EReal) (init : EReal) (e : Fin 64) :
    Ideal.hostReduceAdd reducesTo_S4x4096x64_S64_d0_1 y init (ix1 e) = init + ∑ a : Fin 4, ∑ s : Fin 4096, y (ix3 a s e) := by
  unfold Ideal.hostReduceAdd
  congr 1
  rw [Finset.sum_filter]
  refine (sum_idx3 (n0 := 4) (n1 := 4096) (n2 := 64) _).trans ?_
  refine Finset.sum_congr rfl fun a _ => Finset.sum_congr rfl fun s _ => ?_
  have hd : ∀ k : Fin 64, (reducesTo_S4x4096x64_S64_d0_1.drop (ix3 a s k) = ix1 e) ↔ k = e := by
    intro k
    have hv : (reducesTo_S4x4096x64_S64_d0_1.drop (ix3 a s k) 0 : ℕ) = (ix3 a s k : S4x4096x64.Idx) 2 :=
      Shape.ReducesTo.drop_apply_val reducesTo_S4x4096x64_S64_d0_1 (ix3 a s k) 0
    constructor
    · intro h
      rw [h] at hv
      exact Fin.ext hv.symm
    · rintro rfl
      funext b
      match b with
      | 0 => exact Fin.ext hv
  rw [Finset.sum_congr rfl fun k _ => if_congr (hd k) rfl rfl, Finset.sum_ite_eq']
  simp

theorem coe_sum2 (f : Fin 4 → Fin 4096 → ℝ) :
    ∑ a : Fin 4, ∑ s : Fin 4096, ((f a s : ℝ) : EReal) = ((∑ a, ∑ s, f a s : ℝ) : EReal) := by
  rw [← coe_sum]
  exact Finset.sum_congr rfl fun a _ => coe_sum _

theorem along_at (a : Fin 4) (s : Fin 4096) (e k : Fin 64) :
    Shape.Idx.along (s := S4x4096x64) (ix3 a s e) 2 k = ix3 a s k := by
  funext b
  match b with
  | 0 => rfl
  | 1 => rfl
  | 2 => rfl

/-! ## One token -/

theorem logits_at (x : FVec Ideal S4x4096x2048 .f32) (w : FVec Ideal S2048x64 .f32) (xr : Fin 4 → Fin 4096 → Fin 2048 → ℝ)
    (wr : Fin 2048 → Fin 64 → ℝ) (hx : ∀ a s d, x (ix3 a s d) = ((xr a s d : ℝ) : EReal)) (hw : ∀ d e, w (ix2 d e) = ((wr d e : ℝ) : EReal))
    (a : Fin 4) (s : Fin 4096) (e : Fin 64) : logits x w (ix3 a s e) = ((tok xr wr (4096 * a.val + s.val) e : ℝ) : EReal) := by
  unfold logits
  pointwise
  unfold tok
  rw [← coe_sum]
  refine Finset.sum_congr rfl fun d _ => ?_
  have h1 : (⟨(4096 * a.val + s.val) / 4096 % 4, Nat.mod_lt _ (by omega)⟩ : Fin 4) = a := Fin.ext (by show (4096 * a.val + s.val) / 4096 % 4 = a.val; omega)
  have h2 : (⟨(4096 * a.val + s.val) % 4096, Nat.mod_lt _ (by omega)⟩ : Fin 4096) = s := Fin.ext (by show (4096 * a.val + s.val) % 4096 = s.val; omega)
  rw [h1, h2, hx, hw, EReal.coe_mul]

section
variable (z : FVec Ideal S4x4096x64 .f32) (a : Fin 4) (s : Fin 4096) (v : Fin 64 → ℝ) (hz : ∀ e, z (ix3 a s e) = ((v e : ℝ) : EReal))
include hz

theorem before_at (e : Fin 64) : (fun p p' : Fin 64 => FloatOps.cmpfTotal (F := Ideal) (φ := .f32) .gt
      (z (Shape.Idx.along (s := S4x4096x64) (ix3 a s e) 2 p)) (z (Shape.Idx.along (s := S4x4096x64) (ix3 a s e) 2 p')) == 1#1) =
    fun p p' => decide (v p' < v p) := by
  funext p p'
  rw [along_at, along_at, hz, hz]
  show (BitVec.ofBool (decide (((v p' : ℝ) : EReal) < ((v p : ℝ) : EReal))) == 1#1) = decide (v p' < v p)
  rw [show decide (((v p' : ℝ) : EReal) < ((v p : ℝ) : EReal)) = decide (v p' < v p) from decide_eq_decide.mpr EReal.coe_lt_coe_iff]
  cases decide (v p' < v p) <;> rfl

theorem sorted_at (e : Fin 64) (k : Fin 2) (hk : k.val < 64) :
    sortedFrom (n := 64) (fun p p' : Fin 64 => FloatOps.cmpfTotal (F := Ideal) (φ := .f32) .gt
      (z (Shape.Idx.along (s := S4x4096x64) (ix3 a s e) 2 p))
      (z (Shape.Idx.along (s := S4x4096x64) (ix3 a s e) 2 p')) == 1#1) ⟨k.val, hk⟩ = pick v k := by
  refine (congrArg (fun B => sortedFrom B (⟨k.val, hk⟩ : Fin 64)) (before_at z a s v hz e)).trans ?_
  refine (sortedFrom_two v k).trans ?_
  match k with
  | 0 => rfl
  | 1 => rfl

omit hz in
/-- The word of the place written at the sort axis is the word of the place. -/
theorem place_at (q e : Fin 64) :
    BitVec.ofNat 32 ((Shape.Idx.along (s := S4x4096x64) (ix3 a s e) 2 q) 2).val = BitVec.ofNat 32 q.val := by
  rw [along_at]
  rfl

theorem chosen2_at (k : Fin 2) : (chosen z).2 (ix3 a s k) = BitVec.ofNat 32 (pick v k).val := by
  have hk : k.val < 64 := by omega
  rw [← sorted_at z a s v hz ⟨k.val, hk⟩ k hk]
  unfold chosen Host.topK Host.sort2
  pointwise
  generalize sortedFrom _ _ = q
  exact place_at a s q ⟨k.val, hk⟩

theorem chosen1_at (k : Fin 2) : (chosen z).1 (ix3 a s k) = ((v (pick v k) : ℝ) : EReal) := by
  unfold chosen Host.topK Host.sort2
  pointwise
  have hk : k.val < 64 := by omega
  rw [← hz, ← sorted_at z a s v hz ⟨k.val, hk⟩ k hk]
  exact congrArg z (along_at a s ⟨k.val, hk⟩ _)

theorem top2_at : top2 (chosen z).1 (ix2 a s) = ((v (fst v) : ℝ) : EReal) := by
  unfold top2
  pointwise
  rw [neg_inf, fold_max_eq _ 0]
  · rw [chosen1_at z a s v hz]
    exact max_eq_right bot_le
  · intro k
    rw [chosen1_at z a s v hz, chosen1_at z a s v hz]
    exact EReal.coe_le_coe_iff.mpr (fst_ge v _)

theorem exp2_at (k : Fin 2) : exp2 (chosen z).1 (ix3 a s k) = ((if k.val < 1 then 1 else gap v : ℝ) : EReal) := by
  unfold exp2
  pointwise
  rw [top2_at z a s v hz, chosen1_at z a s v hz, ← EReal.coe_sub, Ideal.exp_coe]
  unfold pick gap
  by_cases h : k.val < 1
  · rw [if_pos h, if_pos h, sub_self, Real.exp_zero]
  · rw [if_neg h, if_neg h]

theorem soft2_at (k : Fin 2) : soft2 (chosen z).1 (ix3 a s k) = ((gate v k : ℝ) : EReal) := by
  unfold soft2
  pointwise
  simp only [exp2_at z a s v hz]
  rw [coe_sum, show (∑ k : Fin 2, (if k.val < 1 then 1 else gap v) : ℝ) = 1 + gap v from by rw [Fin.sum_univ_two]; rfl,
    coe_div _ _ (gap_pos v).ne']
  unfold gate
  split <;> rfl

theorem hist_at (e : Fin 64) : hist (chosen z).2 (ix3 a s e) = ((hot v e : ℝ) : EReal) := by
  have one : ∀ p : Fin 64, (FloatOps.uitofp (F := Ideal) FTy.f32 (IntOp.cmpi .eq (BitVec.ofNat 32 p.val) (BitVec.ofNat 32 e.val)) : EReal) =
      ((if e = p then 1 else 0 : ℝ) : EReal) := by
    intro p
    show (((IntOp.cmpi .eq (BitVec.ofNat 32 p.val) (BitVec.ofNat 32 e.val)).toNat : ℝ) : EReal) = _
    by_cases h : e = p
    · subst h
      rw [if_pos rfl, IntOp.cmpi_eq.mpr rfl]
      norm_num
    · have h0 : IntOp.cmpi .eq (BitVec.ofNat 32 p.val) (BitVec.ofNat 32 e.val) = 0#1 := by
        have : IntOp.cmpi .eq (BitVec.ofNat 32 p.val) (BitVec.ofNat 32 e.val) ≠ 1#1 := fun h' =>
          h ((word_eq p e).mp (IntOp.cmpi_eq.mp h')).symm
        revert this
        generalize IntOp.cmpi .eq (BitVec.ofNat 32 p.val) (BitVec.ofNat 32 e.val) = q
        revert q
        decide
      rw [if_neg h, h0]
      norm_num
  unfold hist
  pointwise
  simp only [chosen2_at z a s v hz, one]
  rw [coe_sum, Fin.sum_univ_two]
  rfl

theorem top64_at : top64 z (ix2 a s) = ((v (fst v) : ℝ) : EReal) := by
  unfold top64
  pointwise
  rw [neg_inf, fold_max_eq _ (fst v)]
  · rw [hz]
    exact max_eq_right bot_le
  · intro k
    rw [hz, hz]
    exact EReal.coe_le_coe_iff.mpr (fst_ge v _)

theorem exp64_at (e : Fin 64) : exp64 z (ix3 a s e) = ((Real.exp (v e - v (fst v)) : ℝ) : EReal) := by
  unfold exp64
  pointwise
  rw [top64_at z a s v hz, hz, ← EReal.coe_sub, Ideal.exp_coe]

theorem soft64_at (e : Fin 64) : soft64 z (ix3 a s e) = ((prob v e : ℝ) : EReal) := by
  unfold soft64
  pointwise
  simp only [exp64_at z a s v hz]
  rw [coe_sum]
  exact coe_div _ _ (esum_pos v).ne'

theorem logsum_at : logsum z (ix2 a s) = ((lse v : ℝ) : EReal) := by
  unfold logsum
  pointwise
  simp only [hz, Ideal.exp_coe]
  rw [coe_sum, coe_log _ (Finset.sum_pos (fun k _ => Real.exp_pos _) Finset.univ_nonempty), lse_eq]

end

/-! ## All tokens -/

theorem mean64_at (y : FVec Ideal S4x4096x64 .f32) (t : ℕ → Fin 64 → ℝ) (f : (Fin 64 → ℝ) → ℝ) (e : Fin 64)
    (hy : ∀ a s, y (ix3 a s e) = ((f (t (4096 * a.val + s.val)) : ℝ) : EReal)) :
    mean64 y (ix1 e) = Ideal.div ((total t f : ℝ) : EReal) (Ideal.ofBits FTy.f32 1182793728#32) := by
  unfold mean64
  pointwise
  rw [sum_tokens, zero_add]
  simp only [hy]
  rw [coe_sum2 fun a s => f (t (4096 * a.val + s.val)), total_by_sequences]

section
variable (z : FVec Ideal S4x4096x64 .f32) (t : ℕ → Fin 64 → ℝ)
  (hz : ∀ (a : Fin 4) (s : Fin 4096) (e : Fin 64), z (ix3 a s e) = ((t (4096 * a.val + s.val) e : ℝ) : EReal))
include hz

theorem share_at (e : Fin 64) : mean64 (hist (chosen z).2) (ix1 e) = share t e :=
  mean64_at _ t (fun v => hot v e) e fun a s => hist_at z a s _ (hz a s) e

theorem meanProb_at (e : Fin 64) : mean64 (soft64 z) (ix1 e) = meanProb t e :=
  mean64_at _ t (fun v => prob v e) e fun a s => soft64_at z a s _ (hz a s) e

theorem loss_at : loss (mean64 (hist (chosen z).2)) (mean64 (soft64 z)) ix0 = auxLoss t := by
  unfold loss
  pointwise
  simp only [share_at z t hz, meanProb_at z t hz]
  rfl

theorem meanLog_at : meanLog z ix0 = meanLse t := by
  unfold meanLog
  pointwise
  simp only [fun a s => logsum_at z a s _ (hz a s)]
  rw [coe_sum2 fun a s => lse (t (4096 * a.val + s.val)), total_by_sequences]
  rfl

theorem zsq_at : zsq z ix0 = zLoss t := by
  unfold zsq
  pointwise
  rw [meanLog_at z t hz]
  rfl

end

end Cert.ReferenceIdeal.Router

end
-- ==== Proof.Algebraic.lean ====
/- The value claim: on finite inputs the idealised kernel and the reference end with the same five results. -/
module

public import proofs.«01_k».proof.Defs
public import proofs.«01_k».proof.Proof.KernelIdeal.Values
public import proofs.«01_k».proof.Proof.ReferenceIdeal.Values

@[expose] public section

noncomputable section

namespace Cert.Router

open Idealize.ShloMosaic Idealize.ShloMosaic.TcCoe Idealize.ShloMosaic.Tactic
open Idealize.SL.Sem

/-! ## The precondition, read -/

/-- An extended real whose absolute value compares below the infinity is the real number it reads as. -/
theorem coe_of_test (y : EReal)
    (h : FloatOps.cmpf (F := Ideal) (φ := .f32) .olt (FloatOps.hostAbsf (F := Ideal) (φ := .f32) y) (FloatOps.ofBits (F := Ideal) .f32 0x7F800000#32) = 1#1) :
    y = ((y.toReal : ℝ) : EReal) := by
  have htop : (FloatOps.ofBits (F := Ideal) .f32 0x7F800000#32 : EReal) = ⊤ := by
    show Ideal.ofBits .f32 0x7F800000#32 = ⊤
    simp [Ideal.ofBits, Ideal.ieee]
  rw [htop] at h
  have hlt : max y (-y) < (⊤ : EReal) := by
    by_contra hn
    have h' : BitVec.ofBool (decide (max y (-y) < (⊤ : EReal))) = 1#1 := h
    rw [decide_eq_false hn] at h'
    exact absurd h' (by decide)
  refine (EReal.coe_toReal ?_ ?_).symm
  · rintro rfl
    exact absurd hlt (by simp)
  · rintro rfl
    exact absurd hlt (by simp)

/-- The precondition at one device: every activation and every weight is a real number. -/
theorem finite_of_pre [Cert.Pre_finite_inputs.Facts] (m : (ℓ : Loc Cert.KernelIdeal.nD Cert.KernelIdeal.τ Cert.KernelIdeal.sig) → Buf (Elt Ideal) ℓ)
    (h : Cert.Pre_KernelIdeal_finite_inputs m) (c : Dev Cert.KernelIdeal.nD) : Cert.KernelIdeal.Router.Finite m c := by
  refine ⟨fun a s d => ?_, fun d e => ?_⟩
  · have h1 := congrFun (h c).1 (ix3 a s d)
    unfold Cert.Pre_finite_inputs.fn at h1
    exact coe_of_test _ h1
  · have h1 := congrFun (h c).2 (ix2 d e)
    unfold Cert.Pre_finite_inputs.fn at h1
    exact coe_of_test _ h1

/-! ## The kernel's run -/

section
open Cert.KernelIdeal

/-- The kernel ends with its five results at what the host's last operations leave, its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = Router.fin m c main_v7
      ∧ r.2.mem ((c.tc : Thread nD τ).loc main_v13) = Router.fin m c main_v13
      ∧ r.2.mem ((c.tc : Thread nD τ).loc main_v26) = Router.fin m c main_v26
      ∧ r.2.mem ((c.tc : Thread nD τ).loc main_v27) = Router.fin m c main_v27
      ∧ r.2.mem ((c.tc : Thread nD τ).loc main_v16) = Router.fin m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c =>
    ⟨(h.1 c).2 main_v7 (Pipeline.mem_restRefs_of main_v7 (by decide) (by decide)),
      (h.1 c).2 main_v13 (Pipeline.mem_restRefs_of main_v13 (by decide) (by decide)),
      (h.1 c).2 main_v26 (Pipeline.mem_restRefs_of main_v26 (by decide) (by decide)),
      (h.1 c).2 main_v27 (Pipeline.mem_restRefs_of main_v27 (by decide) (by decide)),
      (h.1 c).2 main_v16 (Pipeline.mem_restRefs_of main_v16 (by decide) (by decide)),
      (h.2 c).1, (h.2 c).2⟩)
    (θ_run_and (Router.run_post m ρ) (Router.args_kept m ρ))

end

/-! ## The reference's terms are the kernel's results -/

section
open Cert.KernelIdeal.Router

variable (m : (ℓ : Loc Cert.KernelIdeal.nD Cert.KernelIdeal.τ Cert.KernelIdeal.sig) → Buf (Elt Ideal) ℓ)
  (c : Dev Cert.KernelIdeal.nD) (hfin : Finite m c)

/-- The reference's router logits of the launched arguments. -/
def Z : FVec Ideal Cert.ReferenceIdeal.S4x4096x64 .f32 := Cert.ReferenceIdeal.Router.logits (X m c) (W m c)

include hfin

theorem Z_at (a : Fin 4) (s : Fin 4096) (e : Fin 64) : Z m c (ix3 a s e) = ((T m c (4096 * a.val + s.val) e : ℝ) : EReal) :=
  Cert.ReferenceIdeal.Router.logits_at _ _ _ _ hfin.1 hfin.2 a s e

theorem same_indices : ((Cert.ReferenceIdeal.Router.chosen (Z m c)).2 : Vec Ideal Cert.KernelIdeal.S4x4096x2 .i32) = fin m c Cert.KernelIdeal.main_v7 := by
  funext i
  rw [ValueIdx.eq_ix3 i]
  exact (Cert.ReferenceIdeal.Router.chosen2_at (Z m c) _ _ _ (Z_at m c hfin _ _) _).trans (fin7 m c hfin _ _ _).symm

theorem same_weights : (Cert.ReferenceIdeal.Router.soft2 (Cert.ReferenceIdeal.Router.chosen (Z m c)).1 : Vec Ideal Cert.KernelIdeal.S4x4096x2 .f32) =
    fin m c Cert.KernelIdeal.main_v13 := by
  funext i
  rw [ValueIdx.eq_ix3 i]
  exact (Cert.ReferenceIdeal.Router.soft2_at (Z m c) _ _ _ (Z_at m c hfin _ _) _).trans (fin13 m c hfin _ _ _).symm

theorem same_loss : (Cert.ReferenceIdeal.Router.loss (Cert.ReferenceIdeal.Router.mean64 (Cert.ReferenceIdeal.Router.hist (Cert.ReferenceIdeal.Router.chosen (Z m c)).2))
    (Cert.ReferenceIdeal.Router.mean64 (Cert.ReferenceIdeal.Router.soft64 (Z m c))) : Vec Ideal Cert.KernelIdeal.S_ .f32) = fin m c Cert.KernelIdeal.main_v26 := by
  funext i
  rw [ValueIdx.eq_ix0 i]
  exact (Cert.ReferenceIdeal.Router.loss_at (Z m c) (T m c) (Z_at m c hfin)).trans (fin26 m c hfin).symm

theorem same_zsq : (Cert.ReferenceIdeal.Router.zsq (Z m c) : Vec Ideal Cert.KernelIdeal.S_ .f32) = fin m c Cert.KernelIdeal.main_v27 := by
  funext i
  rw [ValueIdx.eq_ix0 i]
  exact (Cert.ReferenceIdeal.Router.zsq_at (Z m c) (T m c) (Z_at m c hfin)).trans (fin27 m c hfin).symm

theorem same_share : (Cert.ReferenceIdeal.Router.mean64 (Cert.ReferenceIdeal.Router.hist (Cert.ReferenceIdeal.Router.chosen (Z m c)).2) : Vec Ideal Cert.KernelIdeal.S64 .f32) =
    fin m c Cert.KernelIdeal.main_v16 := by
  funext i
  rw [ValueIdx.eq_ix1 i]
  exact (Cert.ReferenceIdeal.Router.share_at (Z m c) (T m c) (Z_at m c hfin) _).trans (fin16 m c hfin _).symm

end

/-! ## The reference's run -/

section
open Cert.ReferenceIdeal

/-- The reference ends with its five results at the terms named above of its launched arguments, which it keeps. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      ∀ z, z = Router.logits (m ((c.tc : Thread nD τ).loc main_arg0)) (m ((c.tc : Thread nD τ).loc main_arg1)) →
      r.2.mem ((c.tc : Thread nD τ).loc main_indices) = (Router.chosen z).2
      ∧ r.2.mem ((c.tc : Thread nD τ).loc main_v11) = Router.soft2 (Router.chosen z).1
      ∧ r.2.mem ((c.tc : Thread nD τ).loc main_v40) = Router.loss (Router.mean64 (Router.hist (Router.chosen z).2)) (Router.mean64 (Router.soft64 z))
      ∧ r.2.mem ((c.tc : Thread nD τ).loc main_v41) = Router.zsq z
      ∧ r.2.mem ((c.tc : Thread nD τ).loc main_v27) = Router.mean64 (Router.hist (Router.chosen z).2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c z hz => by subst hz; exact h c) (Value.run (F := Ideal) m ρ)

end

/-- On finite inputs the two programs end with equal results, all five, their arguments kept. -/
theorem same_values [Cert.Pre_finite_inputs.Facts] : Cert.algebraic_KernelIdeal_ReferenceIdeal_pre_finite_inputs := by
  intro m g m' g' hpre hagree
  refine ⟨fun c => Cert.KernelIdeal.Router.fin m c Cert.KernelIdeal.main_v7, fun c => Cert.KernelIdeal.Router.fin m c Cert.KernelIdeal.main_v13,
    fun c => Cert.KernelIdeal.Router.fin m c Cert.KernelIdeal.main_v26, fun c => Cert.KernelIdeal.Router.fin m c Cert.KernelIdeal.main_v27,
    fun c => Cert.KernelIdeal.Router.fin m c Cert.KernelIdeal.main_v16, kernel_run m g,
    (θ_run (Cert.ReferenceIdeal.defs (F := Ideal)) _ _).mono (fun r h c => ?_) (reference_run m' g')⟩
  have hfin := finite_of_pre m hpre c
  have hz : Z m c = Cert.ReferenceIdeal.Router.logits (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) := by
    rw [(hagree c).1, (hagree c).2]
    rfl
  obtain ⟨h0, h1, h2, h3, h4, h5, h6⟩ := h c (Z m c) hz
  exact ⟨h0.trans (same_indices m c hfin), h1.trans (same_weights m c hfin), h2.trans (same_loss m c hfin), h3.trans (same_zsq m c hfin),
    h4.trans (same_share m c hfin), h5, h6⟩

end Cert.Router

end
-- ==== Proof.lean ====
/- The proof of the certificate's claim. -/
module

public import proofs.«01_k».proof.Proof.Frames
public import proofs.«01_k».proof.Proof.Algebraic
public import proofs.«01_k».proof.Proof.Gen.Pre_finite_inputs

@[expose] public section

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Router.frame_kernel, Cert.Router.frame_ideal, Cert.Router.frame_ideal_finite, Cert.Router.frame_reference,
    Cert.Router.frame_reference_finite, Cert.Router.preserved, Cert.Router.same_values⟩

end Cert.Proof

end
